-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2048x128 : Shape := ⟨2, ![2048, 128]⟩
abbrev S2048x256 : Shape := ⟨2, ![2048, 256]⟩
abbrev S7x256x128 : Shape := ⟨3, ![7, 256, 128]⟩
abbrev S7x256x256 : Shape := ⟨3, ![7, 256, 256]⟩
abbrev S42 : Shape := ⟨1, ![42]⟩
abbrev S2048x32 : Shape := ⟨2, ![2048, 32]⟩
abbrev S2048 : Shape := ⟨1, ![2048]⟩
abbrev S_ : Shape := ⟨0, ![]⟩
abbrev S1x512x128 : Shape := ⟨3, ![1, 512, 128]⟩
abbrev S512x128 : Shape := ⟨2, ![512, 128]⟩
abbrev S1 : Shape := ⟨1, ![1]⟩
abbrev S1x256x128 : Shape := ⟨3, ![1, 256, 128]⟩
abbrev S256x128 : Shape := ⟨2, ![256, 128]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 6
  | .vmem => 18
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S2048x1024, .f32⟩
  | .local _ .vmem, ⟨0, _⟩ => ⟨S2048x512, .bf16⟩
  | .local _ .vmem, ⟨1, _⟩ => ⟨S512x32, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S2048x1024, .f32⟩
  | .local _ .vmem, ⟨6, _⟩ => ⟨S2048x128, .bf16⟩
  | .local _ .vmem, ⟨7, _⟩ => ⟨S2048x256, .bf16⟩
  | .local _ .vmem, ⟨8, _⟩ => ⟨S2048x128, .bf16⟩
  | .local _ .vmem, ⟨9, _⟩ => ⟨S2048x256, .bf16⟩
  | .local _ .vmem, ⟨10, _⟩ => ⟨S2048x128, .bf16⟩
  | .local _ .vmem, ⟨11, _⟩ => ⟨S2048x128, .bf16⟩
  | .local _ .vmem, ⟨12, _⟩ => ⟨S7x256x128, .bf16⟩
  | .local _ .vmem, ⟨13, _⟩ => ⟨S7x256x256, .bf16⟩
  | .local _ .vmem, ⟨14, _⟩ => ⟨S7x256x128, .bf16⟩
  | .local _ .vmem, ⟨15, _⟩ => ⟨S7x256x256, .bf16⟩
  | .local _ .vmem, ⟨16, _⟩ => ⟨S7x256x128, .bf16⟩
  | .local _ .vmem, ⟨17, _⟩ => ⟨S7x256x128, .bf16⟩
  | _, _ => ⟨S2048x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 174 → Bool
  | ⟨i, _⟩ => dmaSemScopedAt i

abbrev sig : RefSig :=
  (ofTc nBuf bufTy 1 174 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v27 : BitVec 32 := Scalar.xori v2 c1_i32_9
  let c1_i32_11 : BitVec 32 := 1#32
  let v28 : BitVec 32 := Scalar.muli v27 c1_i32_11
  let v29 : BitVec 32 := Scalar.addi c0_i32 v28
  v29.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.xori v2 c3_i32
  let c1_i32_13 : BitVec 32 := 1#32
  let v31 : BitVec 32 := Scalar.muli v30 c1_i32_13
  let v32 : BitVec 32 := Scalar.addi c0_i32_14 v31
  v32.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v33 : BitVec 32 := Scalar.xori v2 c4_i32
  let c1_i32_16 : BitVec 32 := 1#32
  let v34 : BitVec 32 := Scalar.muli v33 c1_i32_16
  let v35 : BitVec 32 := Scalar.addi c0_i32_17 v34
  v35.toNat
def k0_off1 (d0 : Dev nD) (c1_i32_48 : BitVec 32) (c0_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v91 : BitVec 32 := Scalar.xori v2 c1_i32_48
  let v92 : BitVec 32 := Scalar.xori v91 c0_i32_49
  let c256_i32 : BitVec 32 := 256#32
  let v93 : BitVec 32 := Scalar.muli v92 c256_i32
  let c0_i32_57 : BitVec 32 := 0#32
  ![v93.toNat, 0]
def k0_off1_at (r : Fin 12) : BitVec 32 × BitVec 32 :=
  if r.val < 6 then
    if r.val < 3 then
      if r.val < 1 then
        (1#32, 0#32)
      else
        if r.val < 2 then
          (1#32, 3#32)
        else
          (1#32, 4#32)
    else
      if r.val < 4 then
        (1#32, 7#32)
      else
        if r.val < 5 then
          (4#32, 0#32)
        else
          (4#32, 1#32)
  else
    if r.val < 9 then
      if r.val < 7 then
        (4#32, 2#32)
      else
        if r.val < 8 then
          (4#32, 3#32)
        else
          (3#32, 0#32)
    else
      if r.val < 10 then
        (3#32, 1#32)
      else
        if r.val < 11 then
          (3#32, 4#32)
        else
          (3#32, 5#32)
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v91 : BitVec 32 := Scalar.xori v2 c1_i32_48
  let c1_i32_53 : BitVec 32 := 1#32
  let v94 : BitVec 32 := Scalar.muli v91 c1_i32_53
  let v95 : BitVec 32 := Scalar.addi c0_i32_54 v94
  v95.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v91 : BitVec 32 := Scalar.xori v2 c1_i32_48
  let c1_i32_63 : BitVec 32 := 1#32
  let v105 : BitVec 32 := Scalar.muli v91 c1_i32_63
  let v106 : BitVec 32 := Scalar.addi c0_i32_64 v105
  v106.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v91 : BitVec 32 := Scalar.xori v2 c1_i32_48
  let c1_i32_73 : BitVec 32 := 1#32
  let v116 : BitVec 32 := Scalar.muli v91 c1_i32_73
  let v117 : BitVec 32 := Scalar.addi c0_i32_74 v116
  v117.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v91 : BitVec 32 := Scalar.xori v2 c1_i32_48
  let c1_i32_82 : BitVec 32 := 1#32
  let v127 : BitVec 32 := Scalar.muli v91 c1_i32_82
  let v128 : BitVec 32 := Scalar.addi c0_i32_83 v127
  v128.toNat
def k0_off2 (d0 : Dev nD) (c3_i32_105 : BitVec 32) (c0_i32_106 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v165 : BitVec 32 := Scalar.xori v2 c3_i32_105
  let v166 : BitVec 32 := Scalar.xori v165 c0_i32_106
  let c256_i32_107 : BitVec 32 := 256#32
  let v167 : BitVec 32 := Scalar.muli v166 c256_i32_107
  let c0_i32_115 : BitVec 32 := 0#32
  ![v167.toNat, 0]
def k0_off2_at (r : Fin 10) : BitVec 32 × BitVec 32 :=
  if r.val < 5 then
    if r.val < 2 then
      if r.val < 1 then
        (3#32, 0#32)
      else
        (3#32, 1#32)
    else
      if r.val < 3 then
        (3#32, 4#32)
      else
        if r.val < 4 then
          (3#32, 5#32)
        else
          (1#32, 0#32)
  else
    if r.val < 7 then
      if r.val < 6 then
        (1#32, 3#32)
      else
        (1#32, 4#32)
    else
      if r.val < 8 then
        (1#32, 7#32)
      else
        if r.val < 9 then
          (4#32, 0#32)
        else
          (4#32, 1#32)
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v165 : BitVec 32 := Scalar.xori v2 c3_i32_105
  let c1_i32_111 : BitVec 32 := 1#32
  let v168 : BitVec 32 := Scalar.muli v165 c1_i32_111
  let v169 : BitVec 32 := Scalar.addi c0_i32_112 v168
  v169.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v165 : BitVec 32 := Scalar.xori v2 c3_i32_105
  let c1_i32_121 : BitVec 32 := 1#32
  let v179 : BitVec 32 := Scalar.muli v165 c1_i32_121
  let v180 : BitVec 32 := Scalar.addi c0_i32_122 v179
  v180.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v165 : BitVec 32 := Scalar.xori v2 c3_i32_105
  let c1_i32_130 : BitVec 32 := 1#32
  let v190 : BitVec 32 := Scalar.muli v165 c1_i32_130
  let v191 : BitVec 32 := Scalar.addi c0_i32_131 v190
  v191.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v165 : BitVec 32 := Scalar.xori v2 c3_i32_105
  let c1_i32_138 : BitVec 32 := 1#32
  let v201 : BitVec 32 := Scalar.muli v165 c1_i32_138
  let v202 : BitVec 32 := Scalar.addi c0_i32_139 v201
  v202.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v239 : BitVec 32 := Scalar.xori v2 c4_i32_161
  let c1_i32_166 : BitVec 32 := 1#32
  let v242 : BitVec 32 := Scalar.muli v239 c1_i32_166
  let v243 : BitVec 32 := Scalar.addi c0_i32_167 v242
  v243.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v239 : BitVec 32 := Scalar.xori v2 c4_i32_161
  let c1_i32_175 : BitVec 32 := 1#32
  let v253 : BitVec 32 := Scalar.muli v239 c1_i32_175
  let v254 : BitVec 32 := Scalar.addi c0_i32_176 v253
  v254.toNat
def k0_dev14 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v239 : BitVec 32 := Scalar.xori v2 c4_i32_161
  let c1_i32_184 : BitVec 32 := 1#32
  let v264 : BitVec 32 := Scalar.muli v239 c1_i32_184
  let v265 : BitVec 32 := Scalar.addi c0_i32_185 v264
  v265.toNat
def k0_dev15 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v239 : BitVec 32 := Scalar.xori v2 c4_i32_161
  let c1_i32_193 : BitVec 32 := 1#32
  let v275 : BitVec 32 := Scalar.muli v239 c1_i32_193
  let v276 : BitVec 32 := Scalar.addi c0_i32_194 v275
  v276.toNat
def k0_dev16 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v313 : BitVec 32 := Scalar.xori v2 c1_i32_216
  let c1_i32_221 : BitVec 32 := 1#32
  let v316 : BitVec 32 := Scalar.muli v313 c1_i32_221
  let v317 : BitVec 32 := Scalar.addi c0_i32_222 v316
  v317.toNat
def k0_dev17 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v313 : BitVec 32 := Scalar.xori v2 c1_i32_216
  let c1_i32_230 : BitVec 32 := 1#32
  let v327 : BitVec 32 := Scalar.muli v313 c1_i32_230
  let v328 : BitVec 32 := Scalar.addi c0_i32_231 v327
  v328.toNat
def k0_dev18 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v313 : BitVec 32 := Scalar.xori v2 c1_i32_216
  let c1_i32_239 : BitVec 32 := 1#32
  let v338 : BitVec 32 := Scalar.muli v313 c1_i32_239
  let v339 : BitVec 32 := Scalar.addi c0_i32_240 v338
  v339.toNat
def k0_dev19 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v313 : BitVec 32 := Scalar.xori v2 c1_i32_216
  let c1_i32_248 : BitVec 32 := 1#32
  let v349 : BitVec 32 := Scalar.muli v313 c1_i32_248
  let v350 : BitVec 32 := Scalar.addi c0_i32_249 v349
  v350.toNat
def k0_dev20 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_271 : BitVec 32 := 3#32
  let v387 : BitVec 32 := Scalar.xori v2 c3_i32_271
  let c1_i32_276 : BitVec 32 := 1#32
  let v390 : BitVec 32 := Scalar.muli v387 c1_i32_276
  let v391 : BitVec 32 := Scalar.addi c0_i32_277 v390
  v391.toNat
def k0_dev21 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_271 : BitVec 32 := 3#32
  let v387 : BitVec 32 := Scalar.xori v2 c3_i32_271
  let c1_i32_285 : BitVec 32 := 1#32
  let v401 : BitVec 32 := Scalar.muli v387 c1_i32_285
  let v402 : BitVec 32 := Scalar.addi c0_i32_286 v401
  v402.toNat
def k0_dev22 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_271 : BitVec 32 := 3#32
  let v387 : BitVec 32 := Scalar.xori v2 c3_i32_271
  let c1_i32_294 : BitVec 32 := 1#32
  let v412 : BitVec 32 := Scalar.muli v387 c1_i32_294
  let v413 : BitVec 32 := Scalar.addi c0_i32_295 v412
  v413.toNat
def k0_dev23 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_271 : BitVec 32 := 3#32
  let v387 : BitVec 32 := Scalar.xori v2 c3_i32_271
  let c1_i32_303 : BitVec 32 := 1#32
  let v423 : BitVec 32 := Scalar.muli v387 c1_i32_303
  let v424 : BitVec 32 := Scalar.addi c0_i32_304 v423
  v424.toNat
def k0_dev24 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v461 : BitVec 32 := Scalar.xori v2 c4_i32_326
  let c1_i32_331 : BitVec 32 := 1#32
  let v464 : BitVec 32 := Scalar.muli v461 c1_i32_331
  let v465 : BitVec 32 := Scalar.addi c0_i32_332 v464
  v465.toNat
def k0_dev25 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v461 : BitVec 32 := Scalar.xori v2 c4_i32_326
  let c1_i32_340 : BitVec 32 := 1#32
  let v475 : BitVec 32 := Scalar.muli v461 c1_i32_340
  let v476 : BitVec 32 := Scalar.addi c0_i32_341 v475
  v476.toNat
def k0_dev26 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v461 : BitVec 32 := Scalar.xori v2 c4_i32_326
  let c1_i32_349 : BitVec 32 := 1#32
  let v486 : BitVec 32 := Scalar.muli v461 c1_i32_349
  let v487 : BitVec 32 := Scalar.addi c0_i32_350 v486
  v487.toNat
def k0_dev27 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v461 : BitVec 32 := Scalar.xori v2 c4_i32_326
  let c1_i32_358 : BitVec 32 := 1#32
  let v497 : BitVec 32 := Scalar.muli v461 c1_i32_358
  let v498 : BitVec 32 := Scalar.addi c0_i32_359 v497
  v498.toNat
def k0_off3 (d0 : Dev nD) (c0_i32_428 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v558 : BitVec 32 := Scalar.xori v2 c0_i32_428
  let c256_i32_429 : BitVec 32 := 256#32
  let v559 : BitVec 32 := Scalar.muli v558 c256_i32_429
  let v560 : Index := Scalar.indexCast v559
  let c0_430 : Index := 0#32
  ![v560.toNat, 0]
def k0_off3_at (r : Fin 7) : BitVec 32 :=
  if r.val < 3 then
    if r.val < 1 then
      0#32
    else
      if r.val < 2 then
        3#32
      else
        4#32
  else
    if r.val < 5 then
      if r.val < 4 then
        7#32
      else
        1#32
    else
      if r.val < 6 then
        2#32
      else
        5#32
def k0_dev28 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_456 : BitVec 32 := 3#32
  let v602 : BitVec 32 := Scalar.xori v2 c3_i32_456
  let c1_i32_462 : BitVec 32 := 1#32
  let v605 : BitVec 32 := Scalar.muli v602 c1_i32_462
  let v606 : BitVec 32 := Scalar.addi c0_i32_463 v605
  v606.toNat
def k0_dev29 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_456 : BitVec 32 := 3#32
  let v602 : BitVec 32 := Scalar.xori v2 c3_i32_456
  let c1_i32_472 : BitVec 32 := 1#32
  let v616 : BitVec 32 := Scalar.muli v602 c1_i32_472
  let v617 : BitVec 32 := Scalar.addi c0_i32_473 v616
  v617.toNat
def k0_off4 (d0 : Dev nD) (c0_i32_537 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v673 : BitVec 32 := Scalar.xori v2 c0_i32_537
  let c256_i32_538 : BitVec 32 := 256#32
  let v674 : BitVec 32 := Scalar.muli v673 c256_i32_538
  let v675 : Index := Scalar.indexCast v674
  let c0_539 : Index := 0#32
  ![v675.toNat, 0]
def k0_off4_at (r : Fin 6) : BitVec 32 :=
  if r.val < 3 then
    if r.val < 1 then
      0#32
    else
      if r.val < 2 then
        1#32
      else
        4#32
  else
    if r.val < 4 then
      5#32
    else
      if r.val < 5 then
        3#32
      else
        7#32
def k0_dev30 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_565 : BitVec 32 := 4#32
  let v717 : BitVec 32 := Scalar.xori v2 c4_i32_565
  let c1_i32_570 : BitVec 32 := 1#32
  let v720 : BitVec 32 := Scalar.muli v717 c1_i32_570
  let v721 : BitVec 32 := Scalar.addi c0_i32_571 v720
  v721.toNat
def k0_dev31 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_565 : BitVec 32 := 4#32
  let v717 : BitVec 32 := Scalar.xori v2 c4_i32_565
  let c1_i32_579 : BitVec 32 := 1#32
  let v731 : BitVec 32 := Scalar.muli v717 c1_i32_579
  let v732 : BitVec 32 := Scalar.addi c0_i32_580 v731
  v732.toNat
def k0_dev32 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_672 : BitVec 32 := 1#32
  let v832 : BitVec 32 := Scalar.xori v2 c1_i32_672
  let c1_i32_677 : BitVec 32 := 1#32
  let v835 : BitVec 32 := Scalar.muli v832 c1_i32_677
  let v836 : BitVec 32 := Scalar.addi c0_i32_678 v835
  v836.toNat
def k0_dev33 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_672 : BitVec 32 := 1#32
  let v832 : BitVec 32 := Scalar.xori v2 c1_i32_672
  let c1_i32_686 : BitVec 32 := 1#32
  let v846 : BitVec 32 := Scalar.muli v832 c1_i32_686
  let v847 : BitVec 32 := Scalar.addi c0_i32_687 v846
  v847.toNat
def k0_dev34 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_779 : BitVec 32 := 3#32
  let v947 : BitVec 32 := Scalar.xori v2 c3_i32_779
  let c1_i32_784 : BitVec 32 := 1#32
  let v950 : BitVec 32 := Scalar.muli v947 c1_i32_784
  let v951 : BitVec 32 := Scalar.addi c0_i32_785 v950
  v951.toNat
def k0_dev35 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_779 : BitVec 32 := 3#32
  let v947 : BitVec 32 := Scalar.xori v2 c3_i32_779
  let c1_i32_793 : BitVec 32 := 1#32
  let v961 : BitVec 32 := Scalar.muli v947 c1_i32_793
  let v962 : BitVec 32 := Scalar.addi c0_i32_794 v961
  v962.toNat
def k0_dev36 (d0 : Dev nD) : Nat :=
  let c0_i32_892 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_886 : BitVec 32 := 4#32
  let v1062 : BitVec 32 := Scalar.xori v2 c4_i32_886
  let c1_i32_891 : BitVec 32 := 1#32
  let v1065 : BitVec 32 := Scalar.muli v1062 c1_i32_891
  let v1066 : BitVec 32 := Scalar.addi c0_i32_892 v1065
  v1066.toNat
def k0_dev37 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_886 : BitVec 32 := 4#32
  let v1062 : BitVec 32 := Scalar.xori v2 c4_i32_886
  let c1_i32_900 : BitVec 32 := 1#32
  let v1076 : BitVec 32 := Scalar.muli v1062 c1_i32_900
  let v1077 : BitVec 32 := Scalar.addi c0_i32_901 v1076
  v1077.toNat
def k0_dev38 (d0 : Dev nD) : Nat :=
  let c0_i32_999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_993 : BitVec 32 := 1#32
  let v1177 : BitVec 32 := Scalar.xori v2 c1_i32_993
  let c1_i32_998 : BitVec 32 := 1#32
  let v1180 : BitVec 32 := Scalar.muli v1177 c1_i32_998
  let v1181 : BitVec 32 := Scalar.addi c0_i32_999 v1180
  v1181.toNat
def k0_dev39 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_993 : BitVec 32 := 1#32
  let v1177 : BitVec 32 := Scalar.xori v2 c1_i32_993
  let c1_i32_1007 : BitVec 32 := 1#32
  let v1191 : BitVec 32 := Scalar.muli v1177 c1_i32_1007
  let v1192 : BitVec 32 := Scalar.addi c0_i32_1008 v1191
  v1192.toNat
def k0_dev40 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1054 : BitVec 32 := 4#32
  let v1246 : BitVec 32 := Scalar.xori v2 c4_i32_1054
  let c1_i32_1059 : BitVec 32 := 1#32
  let v1249 : BitVec 32 := Scalar.muli v1246 c1_i32_1059
  let v1250 : BitVec 32 := Scalar.addi c0_i32_1060 v1249
  v1250.toNat
def k0_dev41 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1108 : BitVec 32 := 1#32
  let v1304 : BitVec 32 := Scalar.xori v2 c1_i32_1108
  let c1_i32_1113 : BitVec 32 := 1#32
  let v1307 : BitVec 32 := Scalar.muli v1304 c1_i32_1113
  let v1308 : BitVec 32 := Scalar.addi c0_i32_1114 v1307
  v1308.toNat
def k0_dev42 (d0 : Dev nD) : Nat :=
  let c0_i32_1168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1162 : BitVec 32 := 3#32
  let v1362 : BitVec 32 := Scalar.xori v2 c3_i32_1162
  let c1_i32_1167 : BitVec 32 := 1#32
  let v1365 : BitVec 32 := Scalar.muli v1362 c1_i32_1167
  let v1366 : BitVec 32 := Scalar.addi c0_i32_1168 v1365
  v1366.toNat
def k0_dev43 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1216 : BitVec 32 := 4#32
  let v1420 : BitVec 32 := Scalar.xori v2 c4_i32_1216
  let c1_i32_1221 : BitVec 32 := 1#32
  let v1423 : BitVec 32 := Scalar.muli v1420 c1_i32_1221
  let v1424 : BitVec 32 := Scalar.addi c0_i32_1222 v1423
  v1424.toNat
def k0_dev44 (d0 : Dev nD) : Nat :=
  let c0_i32_1276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1270 : BitVec 32 := 1#32
  let v1478 : BitVec 32 := Scalar.xori v2 c1_i32_1270
  let c1_i32_1275 : BitVec 32 := 1#32
  let v1481 : BitVec 32 := Scalar.muli v1478 c1_i32_1275
  let v1482 : BitVec 32 := Scalar.addi c0_i32_1276 v1481
  v1482.toNat
def k0_dev45 (d0 : Dev nD) : Nat :=
  let c0_i32_1330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1324 : BitVec 32 := 3#32
  let v1536 : BitVec 32 := Scalar.xori v2 c3_i32_1324
  let c1_i32_1329 : BitVec 32 := 1#32
  let v1539 : BitVec 32 := Scalar.muli v1536 c1_i32_1329
  let v1540 : BitVec 32 := Scalar.addi c0_i32_1330 v1539
  v1540.toNat
def k0_off5 (d0 : Dev nD) (c0_i32_1356 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1572 : BitVec 32 := Scalar.xori v2 c0_i32_1356
  let c256_i32_1357 : BitVec 32 := 256#32
  let v1573 : BitVec 32 := Scalar.muli v1572 c256_i32_1357
  let c0_i32_1362 : BitVec 32 := 0#32
  ![v1573.toNat, 0]
def k0_off5_at (r : Fin 7) : BitVec 32 :=
  if r.val < 3 then
    if r.val < 1 then
      0#32
    else
      if r.val < 2 then
        4#32
      else
        3#32
  else
    if r.val < 5 then
      if r.val < 4 then
        1#32
      else
        7#32
    else
      if r.val < 6 then
        2#32
      else
        5#32
def k0_dev46 (d0 : Dev nD) : Nat :=
  let c0_i32_1361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1355 : BitVec 32 := 4#32
  let v1571 : BitVec 32 := Scalar.xori v2 c4_i32_1355
  let c1_i32_1360 : BitVec 32 := 1#32
  let v1574 : BitVec 32 := Scalar.muli v1571 c1_i32_1360
  let v1575 : BitVec 32 := Scalar.addi c0_i32_1361 v1574
  v1575.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1364 : BitVec 32 := 256#32
  let v1582 : BitVec 32 := Scalar.muli v2 c256_i32_1364
  let v1583 : Index := Scalar.indexCast v1582
  let c0_1365 : Index := 0#32
  ![v1583.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1364 : BitVec 32 := 256#32
  let v1582 : BitVec 32 := Scalar.muli v2 c256_i32_1364
  let v1586 : Index := Scalar.indexCast v1582
  let c0_1366 : Index := 0#32
  ![v1586.toNat, 0]
def k0_off8 (d0 : Dev nD) (c0_i32_1391 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1616 : BitVec 32 := Scalar.xori v2 c0_i32_1391
  let c256_i32_1392 : BitVec 32 := 256#32
  let v1617 : BitVec 32 := Scalar.muli v1616 c256_i32_1392
  let c0_i32_1397 : BitVec 32 := 0#32
  ![v1617.toNat, 0]
def k0_off8_at (r : Fin 6) : BitVec 32 :=
  if r.val < 3 then
    if r.val < 1 then
      0#32
    else
      if r.val < 2 then
        1#32
      else
        4#32
  else
    if r.val < 4 then
      5#32
    else
      if r.val < 5 then
        3#32
      else
        7#32
def k0_dev47 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1390 : BitVec 32 := 1#32
  let v1615 : BitVec 32 := Scalar.xori v2 c1_i32_1390
  let c1_i32_1395 : BitVec 32 := 1#32
  let v1618 : BitVec 32 := Scalar.muli v1615 c1_i32_1395
  let v1619 : BitVec 32 := Scalar.addi c0_i32_1396 v1618
  v1619.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1399 : BitVec 32 := 256#32
  let v1626 : BitVec 32 := Scalar.muli v2 c256_i32_1399
  let v1627 : Index := Scalar.indexCast v1626
  let c128_1400 : Index := 128#32
  ![v1627.toNat, 128]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1399 : BitVec 32 := 256#32
  let v1626 : BitVec 32 := Scalar.muli v2 c256_i32_1399
  let v1630 : Index := Scalar.indexCast v1626
  let c0_1401 : Index := 0#32
  ![v1630.toNat, 0]
def k0_dev48 (d0 : Dev nD) : Nat :=
  let c0_i32_1431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1425 : BitVec 32 := 3#32
  let v1659 : BitVec 32 := Scalar.xori v2 c3_i32_1425
  let c1_i32_1430 : BitVec 32 := 1#32
  let v1662 : BitVec 32 := Scalar.muli v1659 c1_i32_1430
  let v1663 : BitVec 32 := Scalar.addi c0_i32_1431 v1662
  v1663.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1434 : BitVec 32 := 256#32
  let v1670 : BitVec 32 := Scalar.muli v2 c256_i32_1434
  let v1671 : Index := Scalar.indexCast v1670
  let c384_1435 : Index := 384#32
  ![v1671.toNat, 384]
def k0_dev49 (d0 : Dev nD) : Nat :=
  let c0_i32_1466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1460 : BitVec 32 := 4#32
  let v1703 : BitVec 32 := Scalar.xori v2 c4_i32_1460
  let c1_i32_1465 : BitVec 32 := 1#32
  let v1706 : BitVec 32 := Scalar.muli v1703 c1_i32_1465
  let v1707 : BitVec 32 := Scalar.addi c0_i32_1466 v1706
  v1707.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1469 : BitVec 32 := 256#32
  let v1714 : BitVec 32 := Scalar.muli v2 c256_i32_1469
  let v1715 : Index := Scalar.indexCast v1714
  let c512_1470 : Index := 512#32
  ![v1715.toNat, 512]
def k0_dev50 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1495 : BitVec 32 := 1#32
  let v1747 : BitVec 32 := Scalar.xori v2 c1_i32_1495
  let c1_i32_1500 : BitVec 32 := 1#32
  let v1750 : BitVec 32 := Scalar.muli v1747 c1_i32_1500
  let v1751 : BitVec 32 := Scalar.addi c0_i32_1501 v1750
  v1751.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1504 : BitVec 32 := 256#32
  let v1758 : BitVec 32 := Scalar.muli v2 c256_i32_1504
  let v1759 : Index := Scalar.indexCast v1758
  let c768_1505 : Index := 768#32
  ![v1759.toNat, 768]
def k0_dev51 (d0 : Dev nD) : Nat :=
  let c0_i32_1536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1530 : BitVec 32 := 3#32
  let v1791 : BitVec 32 := Scalar.xori v2 c3_i32_1530
  let c1_i32_1535 : BitVec 32 := 1#32
  let v1794 : BitVec 32 := Scalar.muli v1791 c1_i32_1535
  let v1795 : BitVec 32 := Scalar.addi c0_i32_1536 v1794
  v1795.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1539 : BitVec 32 := 256#32
  let v1802 : BitVec 32 := Scalar.muli v2 c256_i32_1539
  let v1803 : Index := Scalar.indexCast v1802
  let c896_1540 : Index := 896#32
  ![v1803.toNat, 896]
def k0_dev52 (d0 : Dev nD) : Nat :=
  let c0_i32_1560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1554 : BitVec 32 := 3#32
  let v1822 : BitVec 32 := Scalar.xori v2 c3_i32_1554
  let c1_i32_1559 : BitVec 32 := 1#32
  let v1825 : BitVec 32 := Scalar.muli v1822 c1_i32_1559
  let v1826 : BitVec 32 := Scalar.addi c0_i32_1560 v1825
  v1826.toNat
def k0_dev53 (d0 : Dev nD) : Nat :=
  let c0_i32_1568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1554 : BitVec 32 := 3#32
  let v1822 : BitVec 32 := Scalar.xori v2 c3_i32_1554
  let c1_i32_1567 : BitVec 32 := 1#32
  let v1835 : BitVec 32 := Scalar.muli v1822 c1_i32_1567
  let v1836 : BitVec 32 := Scalar.addi c0_i32_1568 v1835
  v1836.toNat
def k0_off15 (d0 : Dev nD) (c4_i32_1571 : BitVec 32) (c0_i32_1572 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1843 : BitVec 32 := Scalar.xori v2 c4_i32_1571
  let v1844 : BitVec 32 := Scalar.xori v1843 c0_i32_1572
  let c256_i32_1573 : BitVec 32 := 256#32
  let v1845 : BitVec 32 := Scalar.muli v1844 c256_i32_1573
  let v1846 : Index := Scalar.indexCast v1845
  let c0_1574 : Index := 0#32
  ![v1846.toNat, 0]
def k0_off15_at (r : Fin 7) : BitVec 32 × BitVec 32 :=
  if r.val < 3 then
    if r.val < 1 then
      (4#32, 0#32)
    else
      if r.val < 2 then
        (3#32, 0#32)
      else
        (3#32, 4#32)
  else
    if r.val < 5 then
      if r.val < 4 then
        (1#32, 0#32)
      else
        (1#32, 3#32)
    else
      if r.val < 6 then
        (1#32, 4#32)
      else
        (1#32, 7#32)
def k0_off16 (d0 : Dev nD) (c4_i32_1571 : BitVec 32) (c0_i32_1572 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1843 : BitVec 32 := Scalar.xori v2 c4_i32_1571
  let v1844 : BitVec 32 := Scalar.xori v1843 c0_i32_1572
  let c256_i32_1573 : BitVec 32 := 256#32
  let v1845 : BitVec 32 := Scalar.muli v1844 c256_i32_1573
  let v1849 : Index := Scalar.indexCast v1845
  let c0_1575 : Index := 0#32
  ![v1849.toNat, 0]
def k0_off16_at (r : Fin 12) : BitVec 32 × BitVec 32 :=
  if r.val < 6 then
    if r.val < 3 then
      if r.val < 1 then
        (4#32, 0#32)
      else
        if r.val < 2 then
          (3#32, 0#32)
        else
          (1#32, 0#32)
    else
      if r.val < 4 then
        (3#32, 4#32)
      else
        if r.val < 5 then
          (1#32, 3#32)
        else
          (4#32, 1#32)
  else
    if r.val < 9 then
      if r.val < 7 then
        (1#32, 4#32)
      else
        if r.val < 8 then
          (1#32, 7#32)
        else
          (4#32, 2#32)
    else
      if r.val < 10 then
        (4#32, 3#32)
      else
        if r.val < 11 then
          (3#32, 1#32)
        else
          (3#32, 5#32)
def k0_dev54 (d0 : Dev nD) : Nat :=
  let c0_i32_1594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1588 : BitVec 32 := 4#32
  let v1865 : BitVec 32 := Scalar.xori v2 c4_i32_1588
  let c1_i32_1593 : BitVec 32 := 1#32
  let v1868 : BitVec 32 := Scalar.muli v1865 c1_i32_1593
  let v1869 : BitVec 32 := Scalar.addi c0_i32_1594 v1868
  v1869.toNat
def k0_dev55 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1588 : BitVec 32 := 4#32
  let v1865 : BitVec 32 := Scalar.xori v2 c4_i32_1588
  let c1_i32_1601 : BitVec 32 := 1#32
  let v1878 : BitVec 32 := Scalar.muli v1865 c1_i32_1601
  let v1879 : BitVec 32 := Scalar.addi c0_i32_1602 v1878
  v1879.toNat
def k0_off17 (d0 : Dev nD) (c1_i32_1605 : BitVec 32) (c0_i32_1606 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1886 : BitVec 32 := Scalar.xori v2 c1_i32_1605
  let v1887 : BitVec 32 := Scalar.xori v1886 c0_i32_1606
  let c256_i32_1607 : BitVec 32 := 256#32
  let v1888 : BitVec 32 := Scalar.muli v1887 c256_i32_1607
  let v1889 : Index := Scalar.indexCast v1888
  let c128_1608 : Index := 128#32
  ![v1889.toNat, 128]
def k0_off17_at (r : Fin 7) : BitVec 32 × BitVec 32 :=
  if r.val < 3 then
    if r.val < 1 then
      (1#32, 0#32)
    else
      if r.val < 2 then
        (4#32, 0#32)
      else
        (4#32, 1#32)
  else
    if r.val < 5 then
      if r.val < 4 then
        (3#32, 0#32)
      else
        (3#32, 1#32)
    else
      if r.val < 6 then
        (3#32, 4#32)
      else
        (3#32, 5#32)
def k0_off18 (d0 : Dev nD) (c1_i32_1605 : BitVec 32) (c0_i32_1606 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1886 : BitVec 32 := Scalar.xori v2 c1_i32_1605
  let v1887 : BitVec 32 := Scalar.xori v1886 c0_i32_1606
  let c256_i32_1607 : BitVec 32 := 256#32
  let v1888 : BitVec 32 := Scalar.muli v1887 c256_i32_1607
  let v1892 : Index := Scalar.indexCast v1888
  let c0_1609 : Index := 0#32
  ![v1892.toNat, 0]
def k0_off18_at (r : Fin 10) : BitVec 32 × BitVec 32 :=
  if r.val < 5 then
    if r.val < 2 then
      if r.val < 1 then
        (1#32, 0#32)
      else
        (4#32, 0#32)
    else
      if r.val < 3 then
        (4#32, 1#32)
      else
        if r.val < 4 then
          (3#32, 0#32)
        else
          (3#32, 4#32)
  else
    if r.val < 7 then
      if r.val < 6 then
        (3#32, 1#32)
      else
        (3#32, 5#32)
    else
      if r.val < 8 then
        (1#32, 3#32)
      else
        if r.val < 9 then
          (1#32, 4#32)
        else
          (1#32, 7#32)
def k0_dev56 (d0 : Dev nD) : Nat :=
  let c0_i32_1628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1622 : BitVec 32 := 1#32
  let v1908 : BitVec 32 := Scalar.xori v2 c1_i32_1622
  let c1_i32_1627 : BitVec 32 := 1#32
  let v1911 : BitVec 32 := Scalar.muli v1908 c1_i32_1627
  let v1912 : BitVec 32 := Scalar.addi c0_i32_1628 v1911
  v1912.toNat
def k0_dev57 (d0 : Dev nD) : Nat :=
  let c0_i32_1636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1622 : BitVec 32 := 1#32
  let v1908 : BitVec 32 := Scalar.xori v2 c1_i32_1622
  let c1_i32_1635 : BitVec 32 := 1#32
  let v1921 : BitVec 32 := Scalar.muli v1908 c1_i32_1635
  let v1922 : BitVec 32 := Scalar.addi c0_i32_1636 v1921
  v1922.toNat
def k0_off19 (d0 : Dev nD) (c3_i32_1639 : BitVec 32) (c0_i32_1640 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1929 : BitVec 32 := Scalar.xori v2 c3_i32_1639
  let v1930 : BitVec 32 := Scalar.xori v1929 c0_i32_1640
  let c256_i32_1641 : BitVec 32 := 256#32
  let v1931 : BitVec 32 := Scalar.muli v1930 c256_i32_1641
  let v1932 : Index := Scalar.indexCast v1931
  let c384_1642 : Index := 384#32
  ![v1932.toNat, 384]
def k0_off19_at (r : Fin 7) : BitVec 32 × BitVec 32 :=
  if r.val < 3 then
    if r.val < 1 then
      (3#32, 0#32)
    else
      if r.val < 2 then
        (1#32, 0#32)
      else
        (1#32, 3#32)
  else
    if r.val < 5 then
      if r.val < 4 then
        (4#32, 0#32)
      else
        (4#32, 1#32)
    else
      if r.val < 6 then
        (4#32, 2#32)
      else
        (4#32, 3#32)
def k0_dev58 (d0 : Dev nD) : Nat :=
  let c0_i32_1662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1656 : BitVec 32 := 3#32
  let v1951 : BitVec 32 := Scalar.xori v2 c3_i32_1656
  let c1_i32_1661 : BitVec 32 := 1#32
  let v1954 : BitVec 32 := Scalar.muli v1951 c1_i32_1661
  let v1955 : BitVec 32 := Scalar.addi c0_i32_1662 v1954
  v1955.toNat
def k0_dev59 (d0 : Dev nD) : Nat :=
  let c0_i32_1670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1656 : BitVec 32 := 3#32
  let v1951 : BitVec 32 := Scalar.xori v2 c3_i32_1656
  let c1_i32_1669 : BitVec 32 := 1#32
  let v1964 : BitVec 32 := Scalar.muli v1951 c1_i32_1669
  let v1965 : BitVec 32 := Scalar.addi c0_i32_1670 v1964
  v1965.toNat
def k0_off20 (d0 : Dev nD) (c4_i32_1673 : BitVec 32) (c0_i32_1674 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1972 : BitVec 32 := Scalar.xori v2 c4_i32_1673
  let v1973 : BitVec 32 := Scalar.xori v1972 c0_i32_1674
  let c256_i32_1675 : BitVec 32 := 256#32
  let v1974 : BitVec 32 := Scalar.muli v1973 c256_i32_1675
  let v1975 : Index := Scalar.indexCast v1974
  let c512_1676 : Index := 512#32
  ![v1975.toNat, 512]
def k0_off20_at (r : Fin 7) : BitVec 32 × BitVec 32 :=
  if r.val < 3 then
    if r.val < 1 then
      (4#32, 0#32)
    else
      if r.val < 2 then
        (3#32, 0#32)
      else
        (3#32, 4#32)
  else
    if r.val < 5 then
      if r.val < 4 then
        (1#32, 0#32)
      else
        (1#32, 3#32)
    else
      if r.val < 6 then
        (1#32, 4#32)
      else
        (1#32, 7#32)
def k0_dev60 (d0 : Dev nD) : Nat :=
  let c0_i32_1696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1690 : BitVec 32 := 4#32
  let v1994 : BitVec 32 := Scalar.xori v2 c4_i32_1690
  let c1_i32_1695 : BitVec 32 := 1#32
  let v1997 : BitVec 32 := Scalar.muli v1994 c1_i32_1695
  let v1998 : BitVec 32 := Scalar.addi c0_i32_1696 v1997
  v1998.toNat
def k0_dev61 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1690 : BitVec 32 := 4#32
  let v1994 : BitVec 32 := Scalar.xori v2 c4_i32_1690
  let c1_i32_1703 : BitVec 32 := 1#32
  let v2007 : BitVec 32 := Scalar.muli v1994 c1_i32_1703
  let v2008 : BitVec 32 := Scalar.addi c0_i32_1704 v2007
  v2008.toNat
def k0_off21 (d0 : Dev nD) (c1_i32_1707 : BitVec 32) (c0_i32_1708 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2015 : BitVec 32 := Scalar.xori v2 c1_i32_1707
  let v2016 : BitVec 32 := Scalar.xori v2015 c0_i32_1708
  let c256_i32_1709 : BitVec 32 := 256#32
  let v2017 : BitVec 32 := Scalar.muli v2016 c256_i32_1709
  let v2018 : Index := Scalar.indexCast v2017
  let c768_1710 : Index := 768#32
  ![v2018.toNat, 768]
def k0_off21_at (r : Fin 7) : BitVec 32 × BitVec 32 :=
  if r.val < 3 then
    if r.val < 1 then
      (1#32, 0#32)
    else
      if r.val < 2 then
        (4#32, 0#32)
      else
        (4#32, 1#32)
  else
    if r.val < 5 then
      if r.val < 4 then
        (3#32, 0#32)
      else
        (3#32, 1#32)
    else
      if r.val < 6 then
        (3#32, 4#32)
      else
        (3#32, 5#32)
def k0_dev62 (d0 : Dev nD) : Nat :=
  let c0_i32_1730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1724 : BitVec 32 := 1#32
  let v2037 : BitVec 32 := Scalar.xori v2 c1_i32_1724
  let c1_i32_1729 : BitVec 32 := 1#32
  let v2040 : BitVec 32 := Scalar.muli v2037 c1_i32_1729
  let v2041 : BitVec 32 := Scalar.addi c0_i32_1730 v2040
  v2041.toNat
def k0_dev63 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1724 : BitVec 32 := 1#32
  let v2037 : BitVec 32 := Scalar.xori v2 c1_i32_1724
  let c1_i32_1737 : BitVec 32 := 1#32
  let v2050 : BitVec 32 := Scalar.muli v2037 c1_i32_1737
  let v2051 : BitVec 32 := Scalar.addi c0_i32_1738 v2050
  v2051.toNat
def k0_off22 (d0 : Dev nD) (c3_i32_1741 : BitVec 32) (c0_i32_1742 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2058 : BitVec 32 := Scalar.xori v2 c3_i32_1741
  let v2059 : BitVec 32 := Scalar.xori v2058 c0_i32_1742
  let c256_i32_1743 : BitVec 32 := 256#32
  let v2060 : BitVec 32 := Scalar.muli v2059 c256_i32_1743
  let v2061 : Index := Scalar.indexCast v2060
  let c896_1744 : Index := 896#32
  ![v2061.toNat, 896]
def k0_off22_at (r : Fin 7) : BitVec 32 × BitVec 32 :=
  if r.val < 3 then
    if r.val < 1 then
      (3#32, 0#32)
    else
      if r.val < 2 then
        (1#32, 0#32)
      else
        (1#32, 3#32)
  else
    if r.val < 5 then
      if r.val < 4 then
        (4#32, 0#32)
      else
        (4#32, 1#32)
    else
      if r.val < 6 then
        (4#32, 2#32)
      else
        (4#32, 3#32)
def k0_dev64 (d0 : Dev nD) : Nat :=
  let c0_i32_1775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1769 : BitVec 32 := 1#32
  let v2090 : BitVec 32 := Scalar.xori v2 c1_i32_1769
  let c1_i32_1774 : BitVec 32 := 1#32
  let v2093 : BitVec 32 := Scalar.muli v2090 c1_i32_1774
  let v2094 : BitVec 32 := Scalar.addi c0_i32_1775 v2093
  v2094.toNat
def k0_dev65 (d0 : Dev nD) : Nat :=
  let c0_i32_1783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1769 : BitVec 32 := 1#32
  let v2090 : BitVec 32 := Scalar.xori v2 c1_i32_1769
  let c1_i32_1782 : BitVec 32 := 1#32
  let v2103 : BitVec 32 := Scalar.muli v2090 c1_i32_1782
  let v2104 : BitVec 32 := Scalar.addi c0_i32_1783 v2103
  v2104.toNat
def k0_dev66 (d0 : Dev nD) : Nat :=
  let c0_i32_1791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1769 : BitVec 32 := 1#32
  let v2090 : BitVec 32 := Scalar.xori v2 c1_i32_1769
  let c1_i32_1790 : BitVec 32 := 1#32
  let v2113 : BitVec 32 := Scalar.muli v2090 c1_i32_1790
  let v2114 : BitVec 32 := Scalar.addi c0_i32_1791 v2113
  v2114.toNat
def k0_dev67 (d0 : Dev nD) : Nat :=
  let c0_i32_1799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1769 : BitVec 32 := 1#32
  let v2090 : BitVec 32 := Scalar.xori v2 c1_i32_1769
  let c1_i32_1798 : BitVec 32 := 1#32
  let v2123 : BitVec 32 := Scalar.muli v2090 c1_i32_1798
  let v2124 : BitVec 32 := Scalar.addi c0_i32_1799 v2123
  v2124.toNat
def k0_dev68 (d0 : Dev nD) : Nat :=
  let c0_i32_1842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1836 : BitVec 32 := 3#32
  let v2175 : BitVec 32 := Scalar.xori v2 c3_i32_1836
  let c1_i32_1841 : BitVec 32 := 1#32
  let v2178 : BitVec 32 := Scalar.muli v2175 c1_i32_1841
  let v2179 : BitVec 32 := Scalar.addi c0_i32_1842 v2178
  v2179.toNat
def k0_dev69 (d0 : Dev nD) : Nat :=
  let c0_i32_1850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1836 : BitVec 32 := 3#32
  let v2175 : BitVec 32 := Scalar.xori v2 c3_i32_1836
  let c1_i32_1849 : BitVec 32 := 1#32
  let v2188 : BitVec 32 := Scalar.muli v2175 c1_i32_1849
  let v2189 : BitVec 32 := Scalar.addi c0_i32_1850 v2188
  v2189.toNat
def k0_dev70 (d0 : Dev nD) : Nat :=
  let c0_i32_1858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1836 : BitVec 32 := 3#32
  let v2175 : BitVec 32 := Scalar.xori v2 c3_i32_1836
  let c1_i32_1857 : BitVec 32 := 1#32
  let v2198 : BitVec 32 := Scalar.muli v2175 c1_i32_1857
  let v2199 : BitVec 32 := Scalar.addi c0_i32_1858 v2198
  v2199.toNat
def k0_dev71 (d0 : Dev nD) : Nat :=
  let c0_i32_1866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1836 : BitVec 32 := 3#32
  let v2175 : BitVec 32 := Scalar.xori v2 c3_i32_1836
  let c1_i32_1865 : BitVec 32 := 1#32
  let v2208 : BitVec 32 := Scalar.muli v2175 c1_i32_1865
  let v2209 : BitVec 32 := Scalar.addi c0_i32_1866 v2208
  v2209.toNat
def k0_dev72 (d0 : Dev nD) : Nat :=
  let c0_i32_1909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1903 : BitVec 32 := 4#32
  let v2260 : BitVec 32 := Scalar.xori v2 c4_i32_1903
  let c1_i32_1908 : BitVec 32 := 1#32
  let v2263 : BitVec 32 := Scalar.muli v2260 c1_i32_1908
  let v2264 : BitVec 32 := Scalar.addi c0_i32_1909 v2263
  v2264.toNat
def k0_dev73 (d0 : Dev nD) : Nat :=
  let c0_i32_1917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1903 : BitVec 32 := 4#32
  let v2260 : BitVec 32 := Scalar.xori v2 c4_i32_1903
  let c1_i32_1916 : BitVec 32 := 1#32
  let v2273 : BitVec 32 := Scalar.muli v2260 c1_i32_1916
  let v2274 : BitVec 32 := Scalar.addi c0_i32_1917 v2273
  v2274.toNat
def k0_dev74 (d0 : Dev nD) : Nat :=
  let c0_i32_1925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1903 : BitVec 32 := 4#32
  let v2260 : BitVec 32 := Scalar.xori v2 c4_i32_1903
  let c1_i32_1924 : BitVec 32 := 1#32
  let v2283 : BitVec 32 := Scalar.muli v2260 c1_i32_1924
  let v2284 : BitVec 32 := Scalar.addi c0_i32_1925 v2283
  v2284.toNat
def k0_dev75 (d0 : Dev nD) : Nat :=
  let c0_i32_1933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1903 : BitVec 32 := 4#32
  let v2260 : BitVec 32 := Scalar.xori v2 c4_i32_1903
  let c1_i32_1932 : BitVec 32 := 1#32
  let v2293 : BitVec 32 := Scalar.muli v2260 c1_i32_1932
  let v2294 : BitVec 32 := Scalar.addi c0_i32_1933 v2293
  v2294.toNat
def k0_dev76 (d0 : Dev nD) : Nat :=
  let c0_i32_1976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1970 : BitVec 32 := 1#32
  let v2345 : BitVec 32 := Scalar.xori v2 c1_i32_1970
  let c1_i32_1975 : BitVec 32 := 1#32
  let v2348 : BitVec 32 := Scalar.muli v2345 c1_i32_1975
  let v2349 : BitVec 32 := Scalar.addi c0_i32_1976 v2348
  v2349.toNat
def k0_dev77 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1970 : BitVec 32 := 1#32
  let v2345 : BitVec 32 := Scalar.xori v2 c1_i32_1970
  let c1_i32_1983 : BitVec 32 := 1#32
  let v2358 : BitVec 32 := Scalar.muli v2345 c1_i32_1983
  let v2359 : BitVec 32 := Scalar.addi c0_i32_1984 v2358
  v2359.toNat
def k0_dev78 (d0 : Dev nD) : Nat :=
  let c0_i32_1992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1970 : BitVec 32 := 1#32
  let v2345 : BitVec 32 := Scalar.xori v2 c1_i32_1970
  let c1_i32_1991 : BitVec 32 := 1#32
  let v2368 : BitVec 32 := Scalar.muli v2345 c1_i32_1991
  let v2369 : BitVec 32 := Scalar.addi c0_i32_1992 v2368
  v2369.toNat
def k0_dev79 (d0 : Dev nD) : Nat :=
  let c0_i32_2000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1970 : BitVec 32 := 1#32
  let v2345 : BitVec 32 := Scalar.xori v2 c1_i32_1970
  let c1_i32_1999 : BitVec 32 := 1#32
  let v2378 : BitVec 32 := Scalar.muli v2345 c1_i32_1999
  let v2379 : BitVec 32 := Scalar.addi c0_i32_2000 v2378
  v2379.toNat
def k0_dev80 (d0 : Dev nD) : Nat :=
  let c0_i32_2043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2037 : BitVec 32 := 3#32
  let v2430 : BitVec 32 := Scalar.xori v2 c3_i32_2037
  let c1_i32_2042 : BitVec 32 := 1#32
  let v2433 : BitVec 32 := Scalar.muli v2430 c1_i32_2042
  let v2434 : BitVec 32 := Scalar.addi c0_i32_2043 v2433
  v2434.toNat
def k0_dev81 (d0 : Dev nD) : Nat :=
  let c0_i32_2051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2037 : BitVec 32 := 3#32
  let v2430 : BitVec 32 := Scalar.xori v2 c3_i32_2037
  let c1_i32_2050 : BitVec 32 := 1#32
  let v2443 : BitVec 32 := Scalar.muli v2430 c1_i32_2050
  let v2444 : BitVec 32 := Scalar.addi c0_i32_2051 v2443
  v2444.toNat
def k0_dev82 (d0 : Dev nD) : Nat :=
  let c0_i32_2059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2037 : BitVec 32 := 3#32
  let v2430 : BitVec 32 := Scalar.xori v2 c3_i32_2037
  let c1_i32_2058 : BitVec 32 := 1#32
  let v2453 : BitVec 32 := Scalar.muli v2430 c1_i32_2058
  let v2454 : BitVec 32 := Scalar.addi c0_i32_2059 v2453
  v2454.toNat
def k0_dev83 (d0 : Dev nD) : Nat :=
  let c0_i32_2067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2037 : BitVec 32 := 3#32
  let v2430 : BitVec 32 := Scalar.xori v2 c3_i32_2037
  let c1_i32_2066 : BitVec 32 := 1#32
  let v2463 : BitVec 32 := Scalar.muli v2430 c1_i32_2066
  let v2464 : BitVec 32 := Scalar.addi c0_i32_2067 v2463
  v2464.toNat
def k0_dev84 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2104 : BitVec 32 := 4#32
  let v2515 : BitVec 32 := Scalar.xori v2 c4_i32_2104
  let c1_i32_2109 : BitVec 32 := 1#32
  let v2518 : BitVec 32 := Scalar.muli v2515 c1_i32_2109
  let v2519 : BitVec 32 := Scalar.addi c0_i32_2110 v2518
  v2519.toNat
def k0_dev85 (d0 : Dev nD) : Nat :=
  let c0_i32_2118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2104 : BitVec 32 := 4#32
  let v2515 : BitVec 32 := Scalar.xori v2 c4_i32_2104
  let c1_i32_2117 : BitVec 32 := 1#32
  let v2528 : BitVec 32 := Scalar.muli v2515 c1_i32_2117
  let v2529 : BitVec 32 := Scalar.addi c0_i32_2118 v2528
  v2529.toNat
def k0_dev86 (d0 : Dev nD) : Nat :=
  let c0_i32_2126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2104 : BitVec 32 := 4#32
  let v2515 : BitVec 32 := Scalar.xori v2 c4_i32_2104
  let c1_i32_2125 : BitVec 32 := 1#32
  let v2538 : BitVec 32 := Scalar.muli v2515 c1_i32_2125
  let v2539 : BitVec 32 := Scalar.addi c0_i32_2126 v2538
  v2539.toNat
def k0_dev87 (d0 : Dev nD) : Nat :=
  let c0_i32_2134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2104 : BitVec 32 := 4#32
  let v2515 : BitVec 32 := Scalar.xori v2 c4_i32_2104
  let c1_i32_2133 : BitVec 32 := 1#32
  let v2548 : BitVec 32 := Scalar.muli v2515 c1_i32_2133
  let v2549 : BitVec 32 := Scalar.addi c0_i32_2134 v2548
  v2549.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S1x32 : Shape := ⟨2, ![1, 32]⟩
abbrev S32x2048 : Shape := ⟨2, ![32, 2048]⟩
abbrev S32x2048x1 : Shape := ⟨3, ![32, 2048, 1]⟩
abbrev S32x1024x2048 : Shape := ⟨3, ![32, 1024, 2048]⟩
abbrev S32x2048x1024 : Shape := ⟨3, ![32, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S512x1024, .bf16⟩
  | .hbm, ⟨5, _⟩ => ⟨S2048x512, .f32⟩
  | .hbm, ⟨6, _⟩ => ⟨S512x32, .f32⟩
  | .hbm, ⟨7, _⟩ => ⟨S32x512x1024, .f32⟩
  | .hbm, ⟨8, _⟩ => ⟨S512x1024, .f32⟩
  | .hbm, ⟨9, _⟩ => ⟨S2048x32, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x32, .f32⟩
  | .hbm, ⟨23, _⟩ => ⟨S2048x32, .f32⟩
  | .hbm, ⟨24, _⟩ => ⟨S2048x1024, .f32⟩
  | .hbm, ⟨25, _⟩ => ⟨S2048, .i32⟩
  | .hbm, ⟨26, _⟩ => ⟨S2048x1, .i32⟩
  | .hbm, ⟨27, _⟩ => ⟨S1x32, .i32⟩
  | .hbm, ⟨28, _⟩ => ⟨S2048x32, .i32⟩
  | .hbm, ⟨29, _⟩ => ⟨S2048x32, .i32⟩
  | .hbm, ⟨30, _⟩ => ⟨S2048x32, .i1⟩
  | .hbm, ⟨31, _⟩ => ⟨S2048x32, .f32⟩
  | .hbm, ⟨32, _⟩ => ⟨S2048x32, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S32x2048, .f32⟩
  | .hbm, ⟨37, _⟩ => ⟨S32x2048x1, .f32⟩
  | .hbm, ⟨38, _⟩ => ⟨S32x1024x2048, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Moe.Parts.lean ====
/- The six column parts of the exchange, their widths and buffers, the exchange pattern of each
   (which neighbour a slot goes to, which chunk it carries), and the few numbers and offsets that
   the kernel computes from its own device id. -/
module

public import proofs.«01_k».proof.Proof.Gen.KernelIdeal

@[expose] public section

noncomputable section

namespace Moe

open Idealize.ShloMosaic Idealize.SL.Sem
open Cert.KernelIdeal Cert.KernelIdeal.Gen

/-- The six column parts of the 1024 hidden columns. -/
inductive Part where
  | a | b | c | d | e | f
deriving DecidableEq

namespace Part

/-- The parts in program order. -/
def all : List Part := [.a, .b, .c, .d, .e, .f]

theorem nodup_all : all.Nodup := by decide
theorem mem_all (p : Part) : p ∈ all := by cases p <;> decide

instance : Fintype Part := ⟨⟨all, nodup_all⟩, mem_all⟩

/-- The position of a part. -/
def num : Part → Nat
  | a => 0 | b => 1 | c => 2 | d => 3 | e => 4 | f => 5

/-- The number of columns of a part. -/
def W : Part → Nat
  | a => 128 | b => 256 | c => 128 | d => 256 | e => 128 | f => 128

/-- The first column of a part. -/
def col : Part → Nat
  | a => 0 | b => 128 | c => 384 | d => 512 | e => 768 | f => 896

/-- The three neighbour offsets of a part in the order its reduction uses them. -/
def dim : Part → Fin 3 → Fin 8
  | a, 0 => 1 | a, 1 => 3 | a, 2 => 4
  | b, 0 => 3 | b, 1 => 4 | b, 2 => 1
  | c, 0 => 4 | c, 1 => 1 | c, 2 => 3
  | d, 0 => 1 | d, 1 => 3 | d, 2 => 4
  | e, 0 => 3 | e, 1 => 4 | e, 2 => 1
  | f, 0 => 4 | f, 1 => 1 | f, 2 => 3

end Part

/-- The reduction round of a slot: four slots in round 0, two in round 1, one in round 2. -/
def rnd : Fin 7 → Fin 3
  | 0 => 0 | 1 => 0 | 2 => 0 | 3 => 0 | 4 => 1 | 5 => 1 | 6 => 2

/-- The neighbour offset of a slot. -/
def G (p : Part) (s : Fin 7) : Fin 8 := p.dim (rnd s)

/-- The chunk offset of a slot: which chunk, relative to the receiver, the slot carries. -/
def J : Part → Fin 7 → Fin 8
  | _, 0 => 0 | _, 4 => 0 | _, 6 => 0
  | .a, 1 => 3 | .a, 2 => 4 | .a, 3 => 7 | .a, 5 => 4
  | .d, 1 => 3 | .d, 2 => 4 | .d, 3 => 7 | .d, 5 => 4
  | .b, 1 => 1 | .b, 2 => 4 | .b, 3 => 5 | .b, 5 => 1
  | .e, 1 => 1 | .e, 2 => 4 | .e, 3 => 5 | .e, 5 => 1
  | .c, 1 => 1 | .c, 2 => 2 | .c, 3 => 3 | .c, 5 => 3
  | .f, 1 => 1 | .f, 2 => 2 | .f, 3 => 3 | .f, 5 => 3

/-- The gather index of a slot: the gather of the finished chunks runs the rounds backwards. -/
def agIx : Fin 7 → Nat
  | 6 => 0 | 4 => 1 | 5 => 2 | 0 => 3 | 1 => 4 | 2 => 5 | 3 => 6

theorem agIx_lt (s : Fin 7) : agIx s < 7 := by revert s; decide

/-! ## Shapes -/

/-- One part of the running sum, all rows. -/
abbrev SR (p : Part) : Shape := ⟨2, ![2048, p.W]⟩
/-- The seven landing slots of a part. -/
abbrev SB (p : Part) : Shape := ⟨3, ![7, 256, p.W]⟩
/-- One landing slot, still with its leading axis. -/
abbrev SS (p : Part) : Shape := ⟨3, ![1, 256, p.W]⟩
/-- One chunk: 256 rows of a part. -/
abbrev SC (p : Part) : Shape := ⟨2, ![256, p.W]⟩
/-- One expert's weight columns of a part, with its leading axis. -/
abbrev SW (p : Part) : Shape := ⟨3, ![1, 512, p.W]⟩
/-- One expert's weight columns of a part. -/
abbrev SM (p : Part) : Shape := ⟨2, ![512, p.W]⟩

/-! ## Buffers -/

/-- The running sum of a part. -/
def red : (p : Part) → Memref sig .tc .vmem (SR p) .bf16
  | .a => Memref.whole cc0_scratch0 | .b => Memref.whole cc0_scratch1 | .c => Memref.whole cc0_scratch2
  | .d => Memref.whole cc0_scratch3 | .e => Memref.whole cc0_scratch4 | .f => Memref.whole cc0_scratch5

/-- The landing slots of a part. -/
def buf : (p : Part) → Memref sig .tc .vmem (SB p) .bf16
  | .a => Memref.whole cc0_scratch6 | .b => Memref.whole cc0_scratch7 | .c => Memref.whole cc0_scratch8
  | .d => Memref.whole cc0_scratch9 | .e => Memref.whole cc0_scratch10 | .f => Memref.whole cc0_scratch11

theorem red_whole (p : Part) : (red p).IsWhole := by cases p <;> exact Memref.isWhole_whole _
theorem buf_whole (p : Part) : (buf p).IsWhole := by cases p <;> exact Memref.isWhole_whole _

/-! ## The words and offsets computed from the device id -/

/-- The device's own position, as the kernel computes it. -/
def pos (d : Dev nD) : BitVec 32 := Scalar.remsi (Scalar.divsi (Dev.word d) 1#32) 8#32

/-- A neighbour or chunk offset as a word. -/
abbrev wd (g : Fin 8) : BitVec 32 := BitVec.ofNat 32 g.val

/-- The device reached by the neighbour offset `g`, as the kernel computes it. -/
def devNat (d : Dev nD) (g : Fin 8) : Nat :=
  (Scalar.addi 0#32 (Scalar.muli (Scalar.xori (pos d) (wd g)) 1#32)).toNat

/-- Row offset of the chunk two steps away (`pos ^ g ^ j`), at column `k`. -/
def off2 (d : Dev nD) (g j : Fin 8) (k : Nat) : Fin 2 → Nat :=
  ![(Scalar.muli (Scalar.xori (Scalar.xori (pos d) (wd g)) (wd j)) 256#32).toNat, k]

/-- Row offset of the chunk one step away (`pos ^ j`), at column `k`. -/
def off1 (d : Dev nD) (j : Fin 8) (k : Nat) : Fin 2 → Nat :=
  ![(Scalar.muli (Scalar.xori (pos d) (wd j)) 256#32).toNat, k]

/-- Row offset of the device's own chunk, at column `k`. -/
def off0 (d : Dev nD) (k : Nat) : Fin 2 → Nat :=
  ![(Scalar.muli (pos d) 256#32).toNat, k]

/-- The device reached by the neighbour offset `g`. -/
def nb (d : Dev nD) (g : Fin 8) : Dev nD := d ^^^ g

theorem devNat_eq (d : Dev nD) (g : Fin 8) : devNat d g = (nb d g).val := by
  revert d g; decide +kernel

theorem devNat_lt (d : Dev nD) (g : Fin 8) : devNat d g < nD := by
  rw [devNat_eq]; exact (nb d g).isLt

theorem row2_eq (d : Dev nD) (g j : Fin 8) :
    (Scalar.muli (Scalar.xori (Scalar.xori (pos d) (wd g)) (wd j)) 256#32).toNat = 256 * (nb (nb d g) j).val := by
  revert d g j; decide +kernel

theorem row1_eq (d : Dev nD) (j : Fin 8) :
    (Scalar.muli (Scalar.xori (pos d) (wd j)) 256#32).toNat = 256 * (nb d j).val := by
  revert d j; decide +kernel

theorem row0_eq (d : Dev nD) : (Scalar.muli (pos d) 256#32).toNat = 256 * d.val := by
  revert d; decide +kernel

theorem off2_eq (d : Dev nD) (g j : Fin 8) (k : Nat) : off2 d g j k = ![256 * (nb (nb d g) j).val, k] := by
  unfold off2; rw [row2_eq]

theorem off1_eq (d : Dev nD) (j : Fin 8) (k : Nat) : off1 d j k = ![256 * (nb d j).val, k] := by
  unfold off1; rw [row1_eq]

theorem off0_eq (d : Dev nD) (k : Nat) : off0 d k = ![256 * d.val, k] := by
  unfold off0; rw [row0_eq]

/-! ## Rectangles -/

theorem inb_chunk (p : Part) (q : Fin 8) (o : Fin 2 → Nat) (ho : o = ![256 * q.val, 0]) :
    ∀ a, o a + (SC p).size a ≤ (SR p).size a := by
  subst ho
  intro a
  match a with
  | ⟨0, _⟩ => show 256 * q.val + 256 ≤ 2048; omega
  | ⟨1, _⟩ => show 0 + p.W ≤ p.W; omega

theorem inb_block (p : Part) (q : Fin 8) (o : Fin 2 → Nat) (ho : o = ![256 * q.val, p.col]) :
    ∀ a, o a + (SC p).size a ≤ S2048x1024.size a := by
  subst ho
  intro a
  match a with
  | ⟨0, _⟩ => show 256 * q.val + 256 ≤ 2048; omega
  | ⟨1, _⟩ => show p.col + p.W ≤ 1024; revert p; decide

theorem inb_slot (p : Part) (s : Fin 7) : ∀ a, (![s.val, 0, 0] : Fin 3 → Nat) a + (SS p).size a ≤ (SB p).size a := by
  intro a
  match a with
  | ⟨0, _⟩ => show s.val + 1 ≤ 7; omega
  | ⟨1, _⟩ => show 0 + 256 ≤ 256; omega
  | ⟨2, _⟩ => show 0 + p.W ≤ p.W; omega

theorem inb_expert (p : Part) (j : Fin 4) : ∀ a, (![j.val, 0, p.col] : Fin 3 → Nat) a + (SW p).size a ≤ S4x512x1024.size a := by
  intro a
  match a with
  | ⟨0, _⟩ => show j.val + 1 ≤ 4; omega
  | ⟨1, _⟩ => show 0 + 512 ≤ 512; omega
  | ⟨2, _⟩ => show p.col + p.W ≤ 1024; revert p; decide

theorem inb_red (p : Part) : ∀ a, (![0, 0] : Fin 2 → Nat) a + (SR p).size a ≤ (SR p).size a := by
  intro a
  match a with
  | ⟨0, _⟩ => show 0 + 2048 ≤ 2048; omega
  | ⟨1, _⟩ => show 0 + p.W ≤ p.W; omega

theorem inb_sem (n : Nat) (h : n < 42) : ∀ a, (![n] : Fin 1 → Nat) a + S1.size a ≤ S42.size a := by
  intro a
  match a with
  | ⟨0, _⟩ => show n + 1 ≤ 42; omega

theorem semIx_lt (p : Part) (n : Nat) (h : n < 7) : 7 * p.num + n < 42 := by
  have : p.num ≤ 5 := by revert p; decide
  omega

/-- The rectangle of chunk `q` of a part. -/
abbrev chunkR (p : Part) (o : Fin 2 → Nat) (h : ∀ a, o a + (SC p).size a ≤ (SR p).size a) : Rect (SR p) :=
  Rect.unit (s := SR p) o (SC p).size h

/-- The rectangle of a landing slot. -/
abbrev slotR (p : Part) (s : Fin 7) : Rect (SB p) :=
  Rect.unit (s := SB p) ![s.val, 0, 0] (SS p).size (inb_slot p s)

theorem chunk_words (p : Part) (q : Fin 8) (o : Fin 2 → Nat) (ho : o = ![256 * q.val, 0]) :
    (chunkR p o (inb_chunk p q o ho)).PackedRows (EltTy.packing .bf16) := by
  subst ho; revert p q; decide +kernel

theorem slot_words (p : Part) (s : Fin 7) : (slotR p s).WholeWords (EltTy.packing .bf16) := by
  revert p s; decide +kernel

theorem red_words (p : Part) : (Rect.unit (s := SR p) ![0, 0] (SR p).size (inb_red p)).PackedRows (EltTy.packing .bf16) := by
  revert p; decide +kernel

theorem squeezes_slot (p : Part) : (SS p).Squeezes (SC p) := by
  cases p <;> first | exact squeezes_S1x256x128_S256x128 | exact squeezes_S1x256x256_S256x256

theorem pos_SC (p : Part) : 0 < (SC p).numel := by
  cases p <;> first | exact h_S256x128 | exact h_S256x256
theorem pos_SS (p : Part) : 0 < (SS p).numel := by
  cases p <;> first | exact h_S1x256x128 | exact h_S1x256x256
theorem pos_SR (p : Part) : 0 < (SR p).numel := by
  cases p <;> first | exact h_S2048x128 | exact h_S2048x256
theorem pos_SW (p : Part) : 0 < (SW p).numel := by
  cases p <;> first | exact h_S1x512x128 | exact h_S1x512x256

end Moe
-- ==== Proof.Moe.Struct.lean ====
/- The kernel's body as a structured program: one definition per kind of step, over a symbolic part
   and slot, each taking the rest of the program as an argument; and the theorem that the body the
   program prints is their composition. -/
module

public import proofs.«01_k».proof.Proof.Moe.Parts
public import proofs.«01_k».proof.Proof.Gen.KernelIdeal.Points

@[expose] public section

noncomputable section

namespace Moe

open Idealize.ShloMosaic Idealize.SL.Sem
open Cert.KernelIdeal Cert.KernelIdeal.Gen

variable {F : FTy → Type} [FloatOps F]

/-- A program of one core. -/
abbrev P (F : FTy → Type) := Prog (TpuEff nD τ sig (Elt F) Λ₀ .tc) PUnit

/-! ## Semaphores and views -/

/-- Cell `n` of a row of 42 transfer semaphores. -/
def cellOf (A : DmaSems sig S42) (n : Nat) (h : n < 42) : DmaSem sig :=
  ((A.slice (Rect.unit (s := S42) ![n] S1.size (inb_sem n h))).squeeze S_ squeezes_S1_S_).sem

/-- The semaphore a reduction transfer credits on its sender. -/
def rsS (p : Part) (s : Fin 7) : DmaSem sig := cellOf cc0_scratch12 (7 * p.num + s.val) (semIx_lt p _ s.isLt)
/-- The semaphore a reduction transfer credits on its receiver. -/
def rsR (p : Part) (s : Fin 7) : DmaSem sig := cellOf cc0_scratch13 (7 * p.num + s.val) (semIx_lt p _ s.isLt)
/-- The semaphore a gather transfer credits on its sender. -/
def agS (p : Part) (s : Fin 7) : DmaSem sig := cellOf cc0_scratch14 (7 * p.num + agIx s) (semIx_lt p _ (agIx_lt s))
/-- The semaphore a gather transfer credits on its receiver. -/
def agR (p : Part) (s : Fin 7) : DmaSem sig := cellOf cc0_scratch15 (7 * p.num + agIx s) (semIx_lt p _ (agIx_lt s))

/-- The chunk of the running sum at offset `o`. -/
def chunkAt (p : Part) (o : Fin 2 → Nat) (h : ∀ a, o a + (SC p).size a ≤ (SR p).size a) :
    Memref sig .tc .vmem (SC p) .bf16 :=
  (red p).slice (chunkR p o h) (fun _ => rfl)

/-- A landing slot, without its leading axis. -/
def slotM (p : Part) (s : Fin 7) : Memref sig .tc .vmem (SC p) .bf16 :=
  ((buf p).slice (slotR p s) (fun _ => rfl)).squeeze (SC p) (squeezes_slot p)

theorem chunkAt_exact (p : Part) (q : Fin 8) (o : Fin 2 → Nat) (ho : o = ![256 * q.val, 0]) :
    (chunkAt p o (inb_chunk p q o ho)).view.WordExact :=
  (red_whole p).wordExact_slice rfl _ (chunk_words p q o ho).wholeWords

theorem slotM_exact (p : Part) (s : Fin 7) : (slotM p s).view.WordExact :=
  ((buf_whole p).wordExact_slice rfl _ (slot_words p s)).reshape _ _

theorem chunk_stores (p : Part) (q : Fin 8) (o : Fin 2 → Nat) (ho : o = ![256 * q.val, 0]) :
    ((red p).access (chunkR p o (inb_chunk p q o ho))).Stores Finset.univ :=
  View.stores_vmem (pos_SC p) ((red_whole p).storeExact_slice rfl _ (chunk_words p q o ho)) (fun _ => rfl)

theorem red_stores (p : Part) :
    ((red p).access (Rect.unit (s := SR p) ![0, 0] (SR p).size (inb_red p))).Stores Finset.univ :=
  View.stores_vmem (pos_SR p) ((red_whole p).storeExact_slice rfl _ (red_words p)) (fun _ => rfl)

/-! ## Values -/

/-- The dimensions of the product of the tokens with one expert's columns of a part. -/
def dotW (p : Part) : DotDims S2048x512 (SM p) (SR p) where
  lhsContracting := [1]
  rhsContracting := [0]
  lhsNonContracting := [0]
  rhsNonContracting := [1]
  lhsBatch := []
  rhsBatch := []
  wf := by
    cases p <;> first | exact dot_S2048x512_S512x128_S2048x128_1_0_0_1_n_n_wf | exact dot_S2048x512_S512x256_S2048x256_1_0_0_1_n_n_wf

theorem casts_SW (p : Part) : (SW p).ShapeCasts (SM p) := by
  cases p <;> first | exact shapeCasts_S1x512x128_S512x128 | exact shapeCasts_S1x512x256_S512x256
theorem casts_SR (p : Part) : (SR p).ShapeCasts (SR p) := by
  cases p <;> first | exact shapeCasts_S2048x128_S2048x128 | exact shapeCasts_S2048x256_S2048x256
theorem casts_SC (p : Part) : (SC p).ShapeCasts (SC p) := by
  cases p <;> first | exact shapeCasts_S256x128_S256x128 | exact shapeCasts_S256x256_S256x256
theorem casts_SS (p : Part) : (SS p).ShapeCasts (SC p) := by
  cases p <;> first | exact shapeCasts_S1x256x128_S256x128 | exact shapeCasts_S1x256x256_S256x256
theorem bcast_SR (p : Part) : S2048x1.Broadcasts (SR p) := by
  cases p <;> first | exact broadcasts_S2048x1_S2048x128 | exact broadcasts_S2048x1_S2048x256

/-- One expert's term of the local sum: its coefficient column times the product. -/
def term (p : Part) (x : FVec F S2048x512 .bf16) (co : FVec F S2048x1 .f32) (w : Vec F (SW p) .bf16) : FVec F (SR p) .f32 :=
  mulf (broadcastTo (SR p) co (bcast_SR p))
    (matmul (dotW p) none x (shapeCast (SM p) w (casts_SW p)) (constant (SR p) .f32 0x00000000#32))

/-- The local sum over the device's four experts, from zero, rounded to bf16. -/
def localSum (p : Part) (x : FVec F S2048x512 .bf16) (c0 c1 c2 c3 : FVec F S2048x1 .f32)
    (w0 w1 w2 w3 : Vec F (SW p) .bf16) : FVec F (SR p) .bf16 :=
  shapeCast (SR p) (truncf .bf16
    (addf (addf (addf (addf (broadcast (SR p) (Scalar.ofBits .f32 0x00000000#32 : F .f32)) (term p x c0 w0)) (term p x c1 w1)) (term p x c2 w2)) (term p x c3 w3))
    bitsLt_bf16_f32) (casts_SR p)

/-- One step of the reduction: the chunk plus what landed. -/
def addSlot (p : Part) (v : Vec F (SC p) .bf16) (w : Vec F (SS p) .bf16) : FVec F (SC p) .bf16 :=
  shapeCast (SC p) (addf (v : FVec F (SC p) .bf16) (shapeCast (SC p) w (casts_SS p))) (casts_SC p)

/-- The output block plus the finished chunk. -/
def addOut (p : Part) (v : Vec F (SC p) .f32) (w : Vec F (SC p) .bf16) : FVec F (SC p) .f32 :=
  addf (shapeCast (SC p) v (casts_SC p)) (extf .f32 (w : FVec F (SC p) .bf16) bitsLt_bf16_f32)

/-- The token block as the products read it. -/
def tokens (x : Vec F S2048x512 .bf16) : FVec F S2048x512 .bf16 := shapeCast S2048x512 x shapeCasts_S2048x512_S2048x512

/-- The routing column as the comparisons read it. -/
def route (idx : Vec F S2048x1 .i32) : IVec S2048x1 32 := shapeCast S2048x1 idx shapeCasts_S2048x1_S2048x1

/-- The router's scores. -/
def scores (x : Vec F S2048x512 .bf16) (rw : Vec F S512x32 .bf16) : FVec F S2048x32 .f32 :=
  matmul dot_S2048x512_S512x32_S2048x32_1_0_0_1_n_n none (tokens x) (shapeCast S512x32 rw shapeCasts_S512x32_S512x32 : FVec F S512x32 .bf16)
    (constant S2048x32 .f32 0x00000000#32)

/-- The exponentials of the scores less their row maximum. -/
def expScores (x : Vec F S2048x512 .bf16) (rw : Vec F S512x32 .bf16) : FVec F S2048x32 .f32 :=
  exp (subf (scores x rw) (broadcastTo S2048x32
    (shapeCast S2048x1 (multiReduction .maximumf [1] S2048 (scores x rw) 0xFF800000#32 reduces_S2048x32_S2048 (.inl rfl) rfl) shapeCasts_S2048_S2048x1)
    broadcasts_S2048x1_S2048x32))

/-- The routing probabilities. -/
def probs (x : Vec F S2048x512 .bf16) (rw : Vec F S512x32 .bf16) : FVec F S2048x32 .f32 :=
  divf (expScores x rw) (broadcastTo S2048x32
    (shapeCast S2048x1 (multiReduction .add [1] S2048 (expScores x rw) 0x00000000#32 reduces_S2048x32_S2048 (.inl rfl) rfl) shapeCasts_S2048_S2048x1)
    broadcasts_S2048x1_S2048x32)

/-- The probability of each token's chosen expert. -/
def pSel (x : Vec F S2048x512 .bf16) (rw : Vec F S512x32 .bf16) (idx : Vec F S2048x1 .i32) : FVec F S2048x1 .f32 :=
  shapeCast S2048x1 (multiReduction .add [1] S2048
    (select (cmpi .eq (iota .tc S2048x32 32 [1] iota_S2048x32_d1_w32) (broadcastTo S2048x32 (route idx) broadcasts_S2048x1_S2048x32))
      (probs x rw) (broadcast S2048x32 (Scalar.ofBits .f32 0x00000000#32 : F .f32)))
    0x00000000#32 reduces_S2048x32_S2048 (.inl rfl) rfl) shapeCasts_S2048_S2048x1

/-- The coefficient column of the device's expert `j`: the probability where the token chose it, else zero. -/
def coef (v : BitVec 32) (j : BitVec 32) (idx : IVec S2048x1 32) (ps : FVec F S2048x1 .f32) : FVec F S2048x1 .f32 :=
  select (cmpi .eq idx (broadcast S2048x1 (Scalar.addi (Scalar.muli v 4#32) j))) ps
    (broadcast S2048x1 (Scalar.ofBits .f32 0x00000000#32 : F .f32))

/-- The shared expert's product. -/
def sharedProd (x : FVec F S2048x512 .bf16) (w : Vec F S512x1024 .bf16) : FVec F S2048x1024 .f32 :=
  matmul dot_S2048x512_S512x1024_S2048x1024_1_0_0_1_n_n none x (shapeCast S512x1024 w shapeCasts_S512x1024_S512x1024 : FVec F S512x1024 .bf16)
    (constant S2048x1024 .f32 0x00000000#32)

/-! ## The steps -/

section steps

variable (a0 : Memref sig .tc .vmem S2048x512 .bf16) (h0 : a0.IsWhole)
  (a1 : Memref sig .tc .vmem S512x32 .bf16) (a2 : Memref sig .tc .vmem S2048x1 .i32)
  (a3 : Memref sig .tc .vmem S4x512x1024 .bf16) (a4 : Memref sig .tc .vmem S512x1024 .bf16)
  (a5 : Memref sig .tc .vmem S2048x1024 .f32) (d : Dev nD)

/-- Load one expert's columns of a part. -/
def ldW (p : Part) (j : Fin 4) (K : Vec F (SW p) .bf16 → P F) : P F :=
  .op (.load a3 (Rect.unit (s := S4x512x1024) ![j.val, 0, p.col] (SW p).size (inb_expert p j)).toLoadRect (View.loadsAt_vmem (pos_SW p))) K

/-- Load a chunk of the running sum. -/
def ldC (p : Part) (q : Fin 8) (o : Fin 2 → Nat) (ho : o = ![256 * q.val, 0]) (K : Vec F (SC p) .bf16 → P F) : P F :=
  .op (.load (red p) (chunkR p o (inb_chunk p q o ho)).toLoadRect (View.loadsAt_vmem (pos_SC p))) K

/-- Store a chunk of the running sum. -/
def stC (p : Part) (q : Fin 8) (o : Fin 2 → Nat) (ho : o = ![256 * q.val, 0]) (v : Vec F (SC p) .bf16) (K : P F) : P F :=
  .op (.store (red p) (chunkR p o (inb_chunk p q o ho)) v Finset.univ (chunk_stores p q o ho) (.inl rfl)) fun _ => K

/-- Load an output block. -/
def ldO (p : Part) (q : Fin 8) (o : Fin 2 → Nat) (ho : o = ![256 * q.val, p.col]) (K : Vec F (SC p) .f32 → P F) : P F :=
  .op (.load a5 (Rect.unit (s := S2048x1024) o (SC p).size (inb_block p q o ho)).toLoadRect (View.loadsAt_vmem (pos_SC p))) K

/-- Store an output block. -/
def stO (p : Part) (q : Fin 8) (o : Fin 2 → Nat) (ho : o = ![256 * q.val, p.col]) (v : Vec F (SC p) .f32) (K : P F) : P F :=
  .op (.store a5 (Rect.unit (s := S2048x1024) o (SC p).size (inb_block p q o ho)) v Finset.univ
    (View.stores_vmem_bits_univ (pos_SC p) rfl) (.inl rfl)) fun _ => K

/-- Load a landing slot. -/
def ldS (p : Part) (s : Fin 7) (K : Vec F (SS p) .bf16 → P F) : P F :=
  .op (.load (buf p) (slotR p s).toLoadRect (View.loadsAt_vmem (pos_SS p))) K

/-- Form the local sum of a part and store it. -/
def evLoc (x : FVec F S2048x512 .bf16) (c0 c1 c2 c3 : FVec F S2048x1 .f32) (p : Part) (K : P F) : P F :=
  ldW a3 p 0 fun w0 => ldW a3 p 1 fun w1 => ldW a3 p 2 fun w2 => ldW a3 p 3 fun w3 =>
  .op (.load (red p) (Rect.unit (s := SR p) ![0, 0] (SR p).size (inb_red p)).toLoadRect (View.loadsAt_vmem (pos_SR p))) fun _ =>
  .op (.store (red p) (Rect.unit (s := SR p) ![0, 0] (SR p).size (inb_red p)) (localSum p x c0 c1 c2 c3 w0 w1 w2 w3)
    Finset.univ (red_stores p) (.inl rfl)) fun _ => K

/-- Send one chunk of the reduction into its landing slot on the neighbour. -/
def evRsSend (p : Part) (s : Fin 7) (K : P F) : P F :=
  .op (.enqueueDma (chunkAt p (off2 d (G p s) (J p s) 0) (inb_chunk p _ _ (off2_eq d _ _ 0)))
    (.remote (Dev.tc (⟨devNat d (G p s), devNat_lt d _⟩ : Dev nD)) (slotM p s) (.dma (rsS p s))) (.dma (rsR p s))
    (chunkAt_exact p _ _ (off2_eq d _ _ 0)) (slotM_exact p s) ⟨⟨rfl, Or.inl rfl⟩, trivial⟩) fun _ => K

/-- Wait for one's own reduction transfer and for the one that lands in the same slot here. -/
def evRsWait (p : Part) (s : Fin 7) (K : P F) : P F :=
  .op (.waitDma2 (rsS p s) (slotM p s) (chunkAt p (off2 d (G p s) (J p s) 0) (inb_chunk p _ _ (off2_eq d _ _ 0)))
    (slotM_exact p s) (chunkAt_exact p _ _ (off2_eq d _ _ 0))) fun _ =>
  .op (.waitDma2 (rsR p s) (chunkAt p (off2 d (G p s) (J p s) 0) (inb_chunk p _ _ (off2_eq d _ _ 0))) (slotM p s)
    (chunkAt_exact p _ _ (off2_eq d _ _ 0)) (slotM_exact p s)) fun _ => K

/-- Add what landed in a slot to its chunk. -/
def evRsAdd (p : Part) (s : Fin 7) (K : P F) : P F :=
  ldC p _ _ (off1_eq d (J p s) 0) fun v => ldS p s fun w => ldC p _ _ (off1_eq d (J p s) 0) fun _ =>
  stC p _ _ (off1_eq d (J p s) 0) (addSlot p v w) K

/-- Send a finished chunk to the same place on the neighbour. -/
def evAgSend (p : Part) (s : Fin 7) (K : P F) : P F :=
  .op (.enqueueDma (chunkAt p (off1 d (J p s) 0) (inb_chunk p _ _ (off1_eq d _ 0)))
    (.remote (Dev.tc (⟨devNat d (G p s), devNat_lt d _⟩ : Dev nD)) (chunkAt p (off1 d (J p s) 0) (inb_chunk p _ _ (off1_eq d _ 0)))
      (.dma (agS p s))) (.dma (agR p s))
    (chunkAt_exact p _ _ (off1_eq d _ 0)) (chunkAt_exact p _ _ (off1_eq d _ 0)) ⟨⟨rfl, Or.inl rfl⟩, trivial⟩) fun _ => K

/-- Wait for one's own gather transfer and for the one that lands here. -/
def evAgWait (p : Part) (s : Fin 7) (K : P F) : P F :=
  .op (.waitDma2 (agS p s) (chunkAt p (off1 d (J p s) 0) (inb_chunk p _ _ (off1_eq d _ 0))) (chunkAt p (off1 d (J p s) 0) (inb_chunk p _ _ (off1_eq d _ 0)))
    (chunkAt_exact p _ _ (off1_eq d _ 0)) (chunkAt_exact p _ _ (off1_eq d _ 0))) fun _ =>
  .op (.waitDma2 (agR p s) (chunkAt p (off1 d (J p s) 0) (inb_chunk p _ _ (off1_eq d _ 0))) (chunkAt p (off1 d (J p s) 0) (inb_chunk p _ _ (off1_eq d _ 0)))
    (chunkAt_exact p _ _ (off1_eq d _ 0)) (chunkAt_exact p _ _ (off1_eq d _ 0))) fun _ => K

/-- Add the device's own finished chunk to its output block. -/
def evOwn (p : Part) (K : P F) : P F :=
  ldO a5 p _ _ (off0_eq d p.col) fun v => ldC p _ _ (off0_eq d 0) fun w => ldO a5 p _ _ (off0_eq d p.col) fun _ =>
  stO a5 p _ _ (off0_eq d p.col) (addOut p v w) K

/-- Add a gathered chunk to its output block. -/
def evOut (p : Part) (s : Fin 7) (K : P F) : P F :=
  ldO a5 p _ _ (off2_eq d (G p s) (J p s) p.col) fun v => ldC p _ _ (off2_eq d (G p s) (J p s) 0) fun w =>
  ldO a5 p _ _ (off2_eq d (G p s) (J p s) p.col) fun _ =>
  stO a5 p _ _ (off2_eq d (G p s) (J p s) p.col) (addOut p v w) K

/-- Form the shared product and store it over the whole output. -/
def evShared (x : FVec F S2048x512 .bf16) (K : P F) : P F :=
  .op (.load a4 (Rect.unit (s := S512x1024) ![0, 0] S512x1024.size inb_S512x1024_S512x1024_0_0).toLoadRect (View.loadsAt_vmem h_S512x1024)) fun w =>
  .op (.load a5 (Rect.unit (s := S2048x1024) ![0, 0] S2048x1024.size inb_S2048x1024_S2048x1024_0_0).toLoadRect (View.loadsAt_vmem h_S2048x1024)) fun _ =>
  .op (.store a5 (Rect.unit (s := S2048x1024) ![0, 0] S2048x1024.size inb_S2048x1024_S2048x1024_0_0) (sharedProd x w) Finset.univ
    (View.stores_vmem_bits_univ h_S2048x1024 rfl) (.inl rfl)) fun _ => K

end steps

/-! ## The program -/

/-- The kinds of step after the handshake. -/
inductive Ev where
  | loc (p : Part) | shared | rsSend (p : Part) (s : Fin 7) | rsWait (p : Part) (s : Fin 7) | rsAdd (p : Part) (s : Fin 7)
  | agSend (p : Part) (s : Fin 7) | agWait (p : Part) (s : Fin 7) | own (p : Part) | out (p : Part) (s : Fin 7)

/-- The slots of a reduction round. -/
def slots : Fin 3 → List (Fin 7)
  | 0 => [0, 1, 2, 3] | 1 => [4, 5] | 2 => [6]

/-- Finish a reduction round of a part: all waits, then all additions. -/
def finish (p : Part) (r : Fin 3) : List Ev := (slots r).map (.rsWait p) ++ (slots r).map (.rsAdd p)

/-- The steps in program order. -/
def program : List Ev :=
  Part.all.flatMap (fun p => .loc p :: (slots 0).map (.rsSend p))
  ++ [.shared]
  ++ Part.all.flatMap (fun p => finish p 0 ++ (slots 1).map (.rsSend p))
  ++ Part.all.flatMap (fun p => finish p 1 ++ (slots 2).map (.rsSend p))
  ++ Part.all.flatMap (fun p => finish p 2 ++ (slots 2).map (.agSend p) ++ [.own p])
  ++ Part.all.flatMap (fun p => (slots 2).map (.agWait p) ++ (slots 1).map (.agSend p) ++ (slots 2).map (.out p))
  ++ Part.all.flatMap (fun p => (slots 1).map (.agWait p) ++ (slots 0).map (.agSend p) ++ (slots 1).map (.out p))
  ++ Part.all.flatMap (fun p => (slots 0).map (.agWait p) ++ (slots 0).map (.out p))

section program

variable (a0 : Memref sig .tc .vmem S2048x512 .bf16)
  (a1 : Memref sig .tc .vmem S512x32 .bf16) (a2 : Memref sig .tc .vmem S2048x1 .i32)
  (a3 : Memref sig .tc .vmem S4x512x1024 .bf16) (a4 : Memref sig .tc .vmem S512x1024 .bf16)
  (a5 : Memref sig .tc .vmem S2048x1024 .f32)

/-- One step before the rest of the program. -/
def Ev.run (d : Dev nD) (x : FVec F S2048x512 .bf16) (c0 c1 c2 c3 : FVec F S2048x1 .f32) : Ev → P F → P F
  | .loc p, K => evLoc a3 x c0 c1 c2 c3 p K
  | .shared, K => evShared a4 a5 x K
  | .rsSend p s, K => evRsSend d p s K
  | .rsWait p s, K => evRsWait d p s K
  | .rsAdd p s, K => evRsAdd d p s K
  | .agSend p s, K => evAgSend d p s K
  | .agWait p s, K => evAgWait d p s K
  | .own p, K => evOwn a5 d p K
  | .out p s, K => evOut a5 d p s K

/-- A list of steps before the rest of the program. -/
def runAll (d : Dev nD) (x : FVec F S2048x512 .bf16) (c0 c1 c2 c3 : FVec F S2048x1 .f32) : List Ev → P F → P F
  | [], K => K
  | e :: l, K => e.run a3 a4 a5 d x c0 c1 c2 c3 (runAll d x c0 c1 c2 c3 l K)

/-- The handshake semaphore. -/
def barS : Sem sig := (SemArray.scalar (sig.barrier 0 rfl) : Sems sig S_).sem

/-- The whole body. -/
def body : P F :=
  .op .deviceId fun d =>
  .op (.load a0 (Rect.unit (s := S2048x512) ![0, 0] S2048x512.size inb_S2048x512_S2048x512_0_0).toLoadRect (View.loadsAt_vmem h_S2048x512)) fun v3 =>
  .op (.load a1 (Rect.unit (s := S512x32) ![0, 0] S512x32.size inb_S512x32_S512x32_0_0).toLoadRect (View.loadsAt_vmem h_S512x32)) fun v5 =>
  .op (.load a2 (Rect.unit (s := S2048x1) ![0, 0] S2048x1.size inb_S2048x1_S2048x1_0_0).toLoadRect (View.loadsAt_vmem h_S2048x1)) fun v17 =>
  .op (.semSignal (Dev.tc (⟨devNat d 1, devNat_lt d 1⟩ : Dev nD)) barS 1) fun _ =>
  .op (.semSignal (Dev.tc (⟨devNat d 3, devNat_lt d 3⟩ : Dev nD)) barS 1) fun _ =>
  .op (.semSignal (Dev.tc (⟨devNat d 4, devNat_lt d 4⟩ : Dev nD)) barS 1) fun _ =>
  .op (.semWait barS 3) fun _ =>
  .op (.load a0 (Rect.unit (s := S2048x512) ![0, 0] S2048x512.size inb_S2048x512_S2048x512_0_0).toLoadRect (View.loadsAt_vmem h_S2048x512)) fun v36 =>
  runAll a3 a4 a5 d (tokens v36) (coef (pos d) 0#32 (route (F := F) v17) (pSel v3 v5 v17)) (coef (pos d) 1#32 (route (F := F) v17) (pSel v3 v5 v17))
    (coef (pos d) 2#32 (route (F := F) v17) (pSel v3 v5 v17)) (coef (pos d) 3#32 (route (F := F) v17) (pSel v3 v5 v17)) program (.ret ⟨⟩)

end program

end Moe
-- ==== Proof.Moe.Contents.lean ====
/- What every buffer holds at every stage: the local sums, the running sums after each reduction
   round, the gathered sum and the output, as functions of all devices' inputs. -/
module

public import proofs.«01_k».proof.Proof.Moe.Struct
public import Idealize.ShloMosaic.Lib.Pipeline.Value

@[expose] public section

noncomputable section

namespace Moe

open Idealize.ShloMosaic Idealize.SL.Sem
open Cert.KernelIdeal Cert.KernelIdeal.Gen

variable {F : FTy → Type} [FloatOps F]

/-- The five operands of one device. -/
structure Inputs (F : FTy → Type) where
  x : Vec F S2048x512 .bf16
  rw : Vec F S512x32 .bf16
  idx : Vec F S2048x1 .i32
  ew : Vec F S4x512x1024 .bf16
  sw : Vec F S512x1024 .bf16

/-- The rectangle of one expert's columns of a part. -/
abbrev expertR (p : Part) (j : Fin 4) : Rect S4x512x1024 :=
  Rect.unit (s := S4x512x1024) ![j.val, 0, p.col] (SW p).size (inb_expert p j)

/-- The rectangle of chunk `q` of a part's running sum. -/
abbrev cR (p : Part) (q : Fin 8) : Rect (SR p) := chunkR p ![256 * q.val, 0] (inb_chunk p q _ rfl)

/-- The rectangle of chunk `q`, columns of part `p`, of the output. -/
abbrev bR (p : Part) (q : Fin 8) : Rect S2048x1024 :=
  Rect.unit (s := S2048x1024) ![256 * q.val, p.col] (SC p).size (inb_block p q _ rfl)

/-- The coefficient column of device `d`'s expert `j`. -/
def coefAt (d : Dev nD) (I : Inputs F) (j : BitVec 32) : FVec F S2048x1 .f32 :=
  coef (pos d) j (route (F := F) I.idx) (pSel I.x I.rw I.idx)

/-- Device `d`'s local sum of a part. -/
def locS (I : Dev nD → Inputs F) (p : Part) (d : Dev nD) : FVec F (SR p) .bf16 :=
  localSum p (tokens (I d).x) (coefAt d (I d) 0#32) (coefAt d (I d) 1#32) (coefAt d (I d) 2#32) (coefAt d (I d) 3#32)
    (fun i => (I d).ew ((expertR p 0).emb i)) (fun i => (I d).ew ((expertR p 1).emb i))
    (fun i => (I d).ew ((expertR p 2).emb i)) (fun i => (I d).ew ((expertR p 3).emb i))

/-- One step of the reduction, on chunks. -/
def addC (p : Part) (v y : Vec F (SC p) .bf16) : Vec F (SC p) .bf16 :=
  addf (v : FVec F (SC p) .bf16) (y : FVec F (SC p) .bf16)

theorem addSlot_eq (p : Part) (v y : Vec F (SC p) .bf16) (w : Vec F (SS p) .bf16) (h : shapeCast (SC p) w (casts_SS p) = y) :
    addSlot p v w = addC p v y := by
  unfold addSlot addC
  rw [shapeCast_self, h]

/-- A round as a neighbour-order index. -/
abbrev rix (n : Nat) : Fin 3 := ⟨n % 3, Nat.mod_lt _ (by decide)⟩

/-- Chunk `q` of device `d`'s running sum of a part after `n` reduction rounds. -/
def run (I : Dev nD → Inputs F) (p : Part) : Nat → Dev nD → Fin 8 → Vec F (SC p) .bf16
  | 0, d, q => fun i => locS I p d ((cR p q).emb i)
  | n + 1, d, q => addC p (run I p n d q) (run I p n (nb d (p.dim (rix n))) q)

/-- Chunk `q` of the finished sum of a part: what the device of that number holds after the last round. -/
def fin (I : Dev nD → Inputs F) (p : Part) (q : Fin 8) : Vec F (SC p) .bf16 := run I p 3 q q

/-- What a device holds of the chunk at relative offset `x` at stage `n`: before stage 3 its own running sum, at
    stage 3 the finished chunk. -/
def stage (I : Dev nD → Inputs F) (c : Dev nD) (p : Part) (x : Fin 8) (n : Nat) : Vec F (SC p) .bf16 :=
  if n = 3 then fin I p (nb c x) else run I p n c (nb c x)

/-- The part a column lies in. -/
def partOf (k : Nat) : Part :=
  if k < 128 then .a else if k < 384 then .b else if k < 512 then .c else if k < 768 then .d else if k < 896 then .e else .f

theorem partOf_col (p : Part) (k : Nat) (h : k < p.W) : partOf (p.col + k) = p := by
  have key (n : Nat) (h1 : p.col ≤ n) (h2 : n < p.col + p.W) : partOf n = p := by
    unfold partOf
    cases p <;> dsimp only [Part.W, Part.col] at h1 h2 <;> split_ifs <;> first | rfl | omega
  exact key _ (Nat.le_add_right _ _) (Nat.add_lt_add_left h _)

theorem partOf_lt (k : Nat) (h : k < 1024) : (partOf k).col ≤ k ∧ k < (partOf k).col + (partOf k).W := by
  unfold partOf
  (repeat' split) <;> dsimp only [Part.W, Part.col] <;> omega

/-- An index of a part's chunk from two numbers. -/
def cIx (p : Part) (r k : Nat) (hr : r < 256) (hk : k < p.W) : (SC p).Idx := Fin.cases ⟨r, hr⟩ (Fin.cases ⟨k, hk⟩ fun i => i.elim0)

/-- The finished sums of all parts side by side: the routed experts' contribution in full. -/
def gath (I : Dev nD → Inputs F) : FVec F S2048x1024 .bf16 := fun i =>
  fin I (partOf (i 1).val) ⟨(i 0).val / 256, by have := (i 0).isLt; change (i 0).val < 2048 at this; omega⟩
    (cIx _ ((i 0).val % 256) ((i 1).val - (partOf (i 1).val).col) (Nat.mod_lt _ (by decide))
      (by have := partOf_lt (i 1).val (i 1).isLt; omega))

/-- The shared product at device `c`. -/
def sharedAt (J : Inputs F) : FVec F S2048x1024 .f32 := sharedProd (tokens J.x) J.sw

/-- Device `c`'s output. -/
def outV (I : Dev nD → Inputs F) (c : Dev nD) : Vec F S2048x1024 .f32 :=
  addf (sharedAt (I c)) (extf .f32 (gath I) bitsLt_bf16_f32)

theorem gath_block (I : Dev nD → Inputs F) (p : Part) (q : Fin 8) (j : (SC p).Idx) :
    gath I ((bR p q).emb j) = fin I p q j := by
  have h0 : (((bR p q).emb j) 0).val = 256 * q.val + (j 0).val := by
    show 256 * q.val + 1 * (j 0).val = _; omega
  have h1 : (((bR p q).emb j) 1).val = p.col + (j 1).val := by
    show p.col + 1 * (j 1).val = _; omega
  have hj0 : (j 0).val < 256 := (j 0).isLt
  have hj1 : (j 1).val < p.W := (j 1).isLt
  have key : ∀ (p' : Part) (q' : Fin 8) (a b : Nat) (ha : a < 256) (hb : b < p'.W), p' = p → q' = q → a = (j 0).val → b = (j 1).val →
      fin I p' q' (cIx p' a b ha hb) = fin I p q j := by
    intro p' q' a b ha hb hp hq ha' hb'
    subst hp hq ha' hb'
    congr 1
    funext a
    match a with
    | ⟨0, _⟩ => rfl
    | ⟨1, _⟩ => rfl
  unfold gath
  have hp : partOf (((bR p q).emb j) 1).val = p := by rw [h1]; exact partOf_col p _ hj1
  refine key _ _ _ _ _ _ hp (Fin.ext ?_) ?_ ?_
  · show (((bR p q).emb j) 0).val / 256 = q.val
    rw [h0]; omega
  · rw [h0]; omega
  · rw [hp, h1]; omega

/-- The output block that the last step of a chunk stores. -/
theorem addOut_eq (I : Dev nD → Inputs F) (c : Dev nD) (p : Part) (q : Fin 8) :
    addOut p (fun j => sharedAt (I c) ((bR p q).emb j)) (fin I p q) = fun j => outV I c ((bR p q).emb j) := by
  unfold addOut outV
  rw [shapeCast_self]
  funext j
  show FloatOps.addf (_ : F .f32) (FloatOps.extf .f32 bitsLt_bf16_f32 (fin I p q j : F .bf16))
    = FloatOps.addf (_ : F .f32) (FloatOps.extf .f32 bitsLt_bf16_f32 (gath I ((bR p q).emb j)))
  rw [gath_block]

end Moe
-- ==== Proof.Moe.Sched.lean ====
/- The exchange protocol: the semaphore cells of a device, who pays each, with how much and with
   what; the levels that order the waits; what a device still owes. -/
module

public import proofs.«01_k».proof.Proof.Moe.Contents
public import Idealize.ShloMosaic.Lib.Pipeline.Launch
public import Idealize.ShloMosaic.Lib.Pipeline.Kit
public import Idealize.ShloMosaic.Lib.Tactic

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The exchange's ghost algebra: duties are named by three numbers. -/
abbrev UE : Type := URounds (GSem nD τ sig) (Fin 3)
/-- The pipeline's ghost algebra and the exchange's. -/
abbrev UU : Type := UR sig nD τ × UE

local notation "𝕄" => MT nD τ sig Unit (Elt F) ℕ UU ℕ

/-- The pipeline's half. -/
abbrev EP : Emb (UR sig nD τ) (MT nD τ sig Unit (Elt F) ℕ UU ℕ) := embL
/-- The exchange's half. -/
abbrev ER : Emb UE (MT nD τ sig Unit (Elt F) ℕ UU ℕ) := embR

/-! ## Cells -/

/-- A part and one of its seven slots. -/
abbrev PS := Part × Fin 7
/-- A part and a chunk offset. -/
abbrev PX := Part × Fin 8
/-- A device's transfer cells: reduction sent (0), reduction received (1), gather sent (2), gather received (3). -/
abbrev TK := Fin 4 × PS
/-- A device's cells: the handshake cell and the transfer cells. -/
abbrev Kd := Option TK

/-- A transfer cell's semaphore. -/
def tsem : TK → DmaSem sig
  | (0, p, s) => rsS p s | (1, p, s) => rsR p s | (2, p, s) => agS p s | (3, p, s) => agR p s

/-- A cell's semaphore. -/
def csem : Kd → SemLoc sig
  | none => .reg barS
  | some t => .dma (tsem t)

/-- The position of a slot within its row of semaphores. -/
def slotIx (i : Fin 4) (s : Fin 7) : Nat := if i.val < 2 then s.val else agIx s

theorem slotIx_lt (i : Fin 4) (s : Fin 7) : slotIx i s < 7 := by revert i s; decide
theorem slotIx_inj (i : Fin 4) (s s' : Fin 7) (h : slotIx i s = slotIx i s') : s = s' := by revert i s s'; decide

theorem tsem_val (i : Fin 4) (p : Part) (s : Fin 7) : (tsem (i, p, s)).val = 6 + 42 * i.val + (7 * p.num + slotIx i s) := by
  revert i p s; decide +kernel

theorem num_inj (p p' : Part) (h : p.num = p'.num) : p = p' := by revert p p'; decide
theorem num_lt (p : Part) : p.num < 6 := by revert p; decide

theorem tsem_inj : Function.Injective tsem := by
  rintro ⟨i, p, s⟩ ⟨i', p', s'⟩ h
  have h := congrArg Fin.val h
  rw [tsem_val, tsem_val] at h
  have := num_lt p; have := num_lt p'; have := slotIx_lt i s; have := slotIx_lt i' s'
  have hi : i = i' := Fin.ext (by omega)
  subst hi
  have hp : p = p' := num_inj _ _ (by omega)
  subst hp
  rw [slotIx_inj i s s' (by omega)]

theorem csem_inj : Function.Injective csem := by
  rintro (_ | t) (_ | t') h
  · rfl
  · cases h
  · cases h
  · have : tsem t = tsem t' := by injection h
    rw [tsem_inj this]

/-- The cell of device `c` of a kind. -/
abbrev cell (c : Dev nD) (k : Kd) : GSem nD τ sig := ((c : Thread nD τ), csem k)
/-- The handshake cell. -/
abbrev bar (c : Dev nD) : GSem nD τ sig := cell c none
/-- A transfer cell. -/
abbrev tc (c : Dev nD) (i : Fin 4) (ps : PS) : GSem nD τ sig := cell c (some (i, ps))

theorem cell_inj {c c' : Dev nD} {k k' : Kd} (h : cell c k = cell c' k') : c = c' ∧ k = k' :=
  ⟨congrArg (fun g : GSem nD τ sig => g.1.1) h, csem_inj (congrArg Prod.snd h)⟩

open Classical in
/-- The kind of a semaphore, if it is one of the exchange's. -/
def decode (sm : SemLoc sig) : Option Kd := if h : ∃ k, csem k = sm then some h.choose else none

theorem decode_csem (k : Kd) : decode (csem k) = some k := by
  unfold decode
  have h : ∃ k', csem k' = csem k := ⟨k, rfl⟩
  rw [dif_pos h, csem_inj h.choose_spec]

/-! ## Credits -/

/-- What one transfer of a part credits. -/
def N (p : Part) : Nat := (slotM p 0).view.dmaCredit

theorem credit_slot (p : Part) (s : Fin 7) : (slotM p s).view.dmaCredit = N p := rfl

theorem credit_chunk (p : Part) (o : Fin 2 → Nat) (h) : (chunkAt p o h).view.dmaCredit = N p := by
  cases p <;> rfl

theorem N_pos (p : Part) : 0 < N p := View.dmaCredit_pos _ (pos_SC p)

/-! ## Payloads -/

/-- A chunk of a device's running sum. -/
abbrev chunkM (p : Part) (q : Fin 8) : Memref sig .tc .vmem (SC p) .bf16 := chunkAt p ![256 * q.val, 0] (inb_chunk p q _ rfl)

/-- A memref of device `c` owned at some contents. -/
def raw (c : Dev nD) {sh : Shape} {e : EltTy} (m : Memref sig .tc .vmem sh e) : sProp 𝕄 :=
  iprop(∃ X : sh.Idx → Elt F e, owns (c : Thread nD τ) m fullShare X)

instance raw_storable (c : Dev nD) {sh : Shape} {e : EltTy} (m : Memref sig .tc .vmem sh e) :
    BI.Storable (upEmb : UEmb _ 𝕄) (raw (F := F) c m) := by unfold raw; infer_instance

/-- The three neighbour offsets. -/
def gOf : Fin 3 → Fin 8
  | 0 => 1 | 1 => 3 | 2 => 4

/-- What the neighbour at offset `gOf i` brings to device `c`'s handshake: its landing slots that `c` will fill. -/
def barPay (c : Dev nD) (i : Fin 3) : sProp 𝕄 :=
  bigSep Finset.univ fun ps : PS => if G ps.1 ps.2 = gOf i then raw (F := F) (nb c (G ps.1 ps.2)) (slotM ps.1 ps.2) else iprop(emp)

/-- What a reduction transfer leaves at its receiver `c`: the slot filled with the neighbour's running sum, and the
    chunk of the neighbour's own buffer that it came from, to be overwritten later. -/
def rsPay (I : Dev nD → Inputs F) (c : Dev nD) (ps : PS) : sProp 𝕄 :=
  iprop(owns (c : Thread nD τ) (slotM ps.1 ps.2) fullShare (run I ps.1 (rnd ps.2).val (nb c (G ps.1 ps.2)) (nb c (J ps.1 ps.2)))
    ∗ raw (F := F) (nb c (G ps.1 ps.2)) (chunkM ps.1 (nb c (J ps.1 ps.2))))

/-- What a gather transfer hands back to its sender `c`: half of the chunk sent. -/
def agBack (I : Dev nD → Inputs F) (c : Dev nD) (ps : PS) : sProp 𝕄 :=
  owns (c : Thread nD τ) (chunkM ps.1 (nb c (J ps.1 ps.2))) fullShare.right (fin I ps.1 (nb c (J ps.1 ps.2)))

/-- What a gather transfer leaves at its receiver `c`: a finished chunk. -/
def agPay (I : Dev nD → Inputs F) (c : Dev nD) (ps : PS) : sProp 𝕄 :=
  owns (c : Thread nD τ) (chunkM ps.1 (nb c (G ps.1 ps.2 ^^^ J ps.1 ps.2))) fullShare (fin I ps.1 (nb c (G ps.1 ps.2 ^^^ J ps.1 ps.2)))

/-- The payload of device `c`'s cell of a kind. -/
def pay (I : Dev nD → Inputs F) (c : Dev nD) : Kd → Fin 3 → sProp 𝕄
  | none, i => barPay c i
  | some (0, _), _ => iprop(emp)
  | some (1, ps), _ => rsPay I c ps
  | some (2, ps), _ => agBack I c ps
  | some (3, ps), _ => agPay I c ps

instance pay_storable (I : Dev nD → Inputs F) (c : Dev nD) (k : Kd) (d : Fin 3) : BI.Storable (upEmb : UEmb _ 𝕄) (pay I c k d) := by
  rcases k with _ | ⟨i, ps⟩
  · show BI.Storable upEmb (barPay c d)
    unfold barPay
    have (ps : PS) : BI.Storable (upEmb : UEmb _ 𝕄) (if G ps.1 ps.2 = gOf d then raw (F := F) (nb c (G ps.1 ps.2)) (slotM ps.1 ps.2) else iprop(emp)) := by
      split <;> infer_instance
    infer_instance
  · match i with
    | 0 => show BI.Storable upEmb iprop(emp); infer_instance
    | 1 => show BI.Storable upEmb (rsPay I c ps); unfold rsPay; infer_instance
    | 2 => show BI.Storable upEmb (agBack I c ps); unfold agBack; infer_instance
    | 3 => show BI.Storable upEmb (agPay I c ps); unfold agPay; infer_instance

/-- The duties of a kind of cell: three at the handshake, one at a transfer. -/
def dutiesOf : Kd → Finset (Fin 3)
  | none => Finset.univ
  | some _ => {0}

/-- The amount of a duty of a kind of cell. -/
def amountOf : Kd → Nat
  | none => 1
  | some (_, ps) => N ps.1

/-- The schedule: every cell has one round. -/
def Rd (I : Dev nD → Inputs F) : Schedule (GSem nD τ sig) (Fin 3) 𝕄 where
  duties g r := if r = 0 ∧ g.1.2 = .tc then ((decode g.2).map dutiesOf).getD ∅ else ∅
  unitless _ := False
  amount g _ _ := ((decode g.2).map amountOf).getD 1
  payload g _ d := ((decode g.2).map fun k => pay I g.1.1 k d).getD iprop(emp)
  amount_pos g _ _ _ := by
    rcases h : decode g.2 with _ | _ | ⟨i, ps⟩
    · exact Nat.one_pos
    · exact Nat.one_pos
    · exact N_pos ps.1

instance Rd_payload_storable (I : Dev nD → Inputs F) (g : GSem nD τ sig) (r : ℕ) (d : Fin 3) :
    BI.Storable (upEmb : UEmb _ 𝕄) ((Rd (F := F) I).payload g r d) := by
  show BI.Storable upEmb (((decode g.2).map fun k => pay I g.1.1 k d).getD iprop(emp))
  rcases decode g.2 with _ | k
  · show BI.Storable upEmb iprop(emp); infer_instance
  · show BI.Storable upEmb (pay I g.1.1 k d); infer_instance

section tables
variable (I : Dev nD → Inputs F) (c : Dev nD)

theorem duties_cell (k : Kd) : (Rd (F := F) I).duties (cell c k) 0 = dutiesOf k := by
  dsimp only [Rd]
  rw [if_pos ⟨rfl, rfl⟩, decode_csem]; rfl
theorem duties_later (g : GSem nD τ sig) : ∀ r, 1 ≤ r → (Rd (F := F) I).duties g r = ∅ :=
  fun r hr => if_neg fun h => by omega
theorem amount_cell (k : Kd) (r : ℕ) (d : Fin 3) : (Rd (F := F) I).amount (cell c k) r d = amountOf k := by
  show ((decode (csem k)).map amountOf).getD 1 = _
  rw [decode_csem]; rfl
theorem payload_cell (k : Kd) (r : ℕ) (d : Fin 3) : (Rd (F := F) I).payload (cell c k) r d = pay I c k d := by
  show ((decode (csem k)).map fun k => pay I c k d).getD iprop(emp) = _
  rw [decode_csem]; rfl
theorem expect_bar : (Rd (F := F) I).expect (bar c) 0 = 3 := by
  unfold Schedule.expect Schedule.amountOf
  rw [duties_cell, Finset.sum_congr rfl fun d _ => amount_cell I c none 0 d]; rfl
theorem expect_tc (i : Fin 4) (ps : PS) : (Rd (F := F) I).expect (tc c i ps) 0 = N ps.1 := by
  unfold Schedule.expect Schedule.amountOf
  rw [duties_cell, Finset.sum_congr rfl fun d _ => amount_cell I c _ 0 d]
  exact Finset.sum_singleton _ _
theorem mem_duties_tc (i : Fin 4) (ps : PS) : (0 : Fin 3) ∈ (Rd (F := F) I).duties (tc c i ps) 0 := by
  rw [duties_cell]; exact Finset.mem_singleton_self _
theorem mem_duties_bar (d : Fin 3) : d ∈ (Rd (F := F) I).duties (bar c) 0 := by
  rw [duties_cell]; exact Finset.mem_univ _
theorem rest_bar : bigSep ((Rd (F := F) I).duties (bar c) 0 \ ∅) (fun d => (Rd (F := F) I).payload (bar c) 0 d)
    = bigSep Finset.univ (barPay (F := F) c) := by
  rw [Finset.sdiff_empty, duties_cell]
  exact bigSep_congr fun d _ => payload_cell I c none 0 d
theorem rest_tc (i : Fin 4) (ps : PS) : bigSep ((Rd (F := F) I).duties (tc c i ps) 0 \ ∅) (fun d => (Rd (F := F) I).payload (tc c i ps) 0 d)
    = pay I c (some (i, ps)) 0 := by
  rw [Finset.sdiff_empty, duties_cell]
  show bigSep {0} _ = _
  rw [bigSep_singleton, payload_cell]

end tables

/-! ## Levels -/

/-- The level of a kind of cell: sent cells below the handshake, the handshake below the reduction's rounds, those
    below the gather's. -/
def level : Kd → Nat
  | none => 1
  | some (1, ps) => 2 + (rnd ps.2).val
  | some (3, ps) => 7 - (rnd ps.2).val
  | some _ => 0

/-- Every cell of a core carries one index. -/
def L (g : GSem nD τ sig) : Finset Unit := if g.1.2 = .tc then {()} else ∅
/-- The level of a cell. -/
def lv (g : GSem nD τ sig) (_ : Unit) : ℕ := ((decode g.2).map level).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) : lv (cell c k) () = level k := by
  show ((decode (csem k)).map level).getD 0 = _
  rw [decode_csem]; rfl

/-! ## What a device owes -/

/-- A transfer still to be sent: `false` a reduction, `true` a gather. -/
abbrev Snd := Bool × PS

/-- The kind of the receive cell of a transfer. -/
def sndK (t : Snd) : Kd := some (if t.1 then 3 else 1, t.2)

/-- What device `c` owes for a list of transfers still to be sent. -/
def owed (c : Dev nD) : List Snd → CellTallies nD τ sig Unit
  | [] => 0
  | t :: l => owed c l + tallyAt (cell (nb c (G t.2.1 t.2.2)) (sndK t)) () (N t.2.1)

theorem owed_pos {c : Dev nD} {l : List Snd} {g : GSem nD τ sig} {u : Unit} (h : 0 < owed c l g u) :
    ∃ t ∈ l, g = cell (nb c (G t.2.1 t.2.2)) (sndK t) := by
  induction l with
  | nil => exact absurd h (Nat.lt_irrefl 0)
  | cons t l ih =>
    unfold owed at h
    rw [Pi.add_apply, Finsupp.add_apply, tallyAt_apply] at h
    by_cases hg : g = cell (nb c (G t.2.1 t.2.2)) (sndK t) ∧ u = ()
    · exact ⟨t, List.mem_cons_self, hg.1⟩
    · rw [if_neg hg, Nat.add_zero] at h
      obtain ⟨t', ht', e⟩ := ih h
      exact ⟨t', List.mem_cons_of_mem _ ht', e⟩

/-- A wait at a level below that of every transfer still to be sent is allowed. -/
theorem mayWait_owed (c : Dev nD) (sm : SemLoc sig) (n : Nat) (hn : lv ((c : Thread nD τ), sm) () ≤ n) (l : List Snd)
    (hl : ∀ t ∈ l, n < level (sndK t)) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨t, -, rfl⟩ := owed_pos hg
      rw [L_tc]; exact Finset.mem_singleton_self _)
    (fun p hp => by rw [Finset.mem_singleton.mp hp]; exact hn)
    (fun g u hg => by
      obtain ⟨t, ht, rfl⟩ := owed_pos hg
      rw [lv_cell]; exact hl t ht)

theorem mayWait_cell (c : Dev nD) (k : Kd) (l : List Snd) (hl : ∀ t ∈ l, level k < level (sndK t)) :
    (levAts L lv : sProp 𝕄) ⊢ MayWait (c : Thread nD τ) (csem k) () (owed c l) :=
  mayWait_owed c _ (level k) (le_of_eq (lv_cell c k)) l hl

end Moe
-- ==== Proof.Moe.Rules.lean ====
/- Loads, stores and transfers in terms of owned memrefs. -/
module

public import proofs.«01_k».proof.Proof.Moe.Sched

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No variants. -/
abbrev 𝒱₀ : Variants := Variants.none

/-- The weakest precondition of a program on device `c`. -/
abbrev WP (c : Dev nD) (p : P F) (Q : PUnit → sProp 𝕄) : sProp 𝕄 :=
  wp frame (wpE (defs₀ (F := F)) 𝒱₀ (c : Thread nD τ) none) Set.univ p Q

section rules

/-- A load through a rectangle of an owned memref reads that part of its contents. -/
theorem ld_part (c : Dev nD) (Q : PUnit → sProp 𝕄) {sh : Shape} {e : EltTy} (m : Memref sig .tc .vmem sh e) (r : Rect sh) {hl : m.view.LoadsAt r.toLoadRect} (q : PosShare TreeShare) (X : sh.Idx → Elt F e)
    (K : (r.shape.Idx → Elt F e) → P F) :
    (owns (c : Thread nD τ) m q X : sProp 𝕄)
      ⊢ iprop((owns (c : Thread nD τ) m q X -∗ WP c (K fun j => X (r.emb j)) Q) -∗ WP c (.op (.load m r.toLoadRect hl) K) Q) := by
  unfold owns
  iintro ⟨%f, %hf, H⟩ Hk
  iapply (wp_load_rect 𝒱₀ (c : Thread nD τ) none Set.univ (m := m) (r := r) (View.set_slice_subset _ _)) $$ H
  iintro H
  rw [show (m.access r).read (Elt F) f = fun j => X (r.emb j) from by rw [← hf]; rfl]
  iapply Hk
  iexists f
  isplitr; · ipureintro; exact hf
  iexact H

/-- A load of an owned slice reads its contents. -/
theorem ld_slice (c : Dev nD) (Q : PUnit → sProp 𝕄) {sh : Shape} {e : EltTy} (m : Memref sig .tc .vmem sh e) (r : Rect sh) (hr : ∀ a, r.stride a = 1) {hl : m.view.LoadsAt r.toLoadRect} (q : PosShare TreeShare) (X : r.shape.Idx → Elt F e)
    (K : (r.shape.Idx → Elt F e) → P F) :
    (owns (c : Thread nD τ) (m.slice r hr) q X : sProp 𝕄)
      ⊢ iprop((owns (c : Thread nD τ) (m.slice r hr) q X -∗ WP c (K X) Q) -∗ WP c (.op (.load m r.toLoadRect hl) K) Q) := by
  unfold owns
  iintro ⟨%f, %hf, H⟩ Hk
  iapply (wp_load_rect 𝒱₀ (c : Thread nD τ) none Set.univ (m := m) (r := r) (Finset.Subset.refl _)) $$ H
  iintro H
  rw [show (m.access r).read (Elt F) f = X from hf]
  iapply Hk
  iexists f
  isplitr; · ipureintro; exact hf
  iexact H

/-- A store over an owned slice. -/
theorem st_slice (c : Dev nD) (Q : PUnit → sProp 𝕄) {sh : Shape} {e : EltTy} (m : Memref sig .tc .vmem sh e) (r : Rect sh) (hr : ∀ a, r.stride a = 1) {hx : (m.access r).Stores Finset.univ} {hm} (X w : r.shape.Idx → Elt F e)
    (K : PUnit → P F) :
    (owns (c : Thread nD τ) (m.slice r hr) fullShare X : sProp 𝕄)
      ⊢ iprop((owns (c : Thread nD τ) (m.slice r hr) fullShare w -∗ WP c (K ⟨⟩) Q)
        -∗ WP c (.op (.store m r w Finset.univ hx hm) K) Q) := by
  unfold owns
  iintro ⟨%f, %hf, H⟩ Hk
  iapply (wp_store 𝒱₀ (c : Thread nD τ) none Set.univ (m := m) (r := r) (w := w) (Mk := Finset.univ) (f := f)
    (S := (m.access r).set) (Finset.Subset.refl _)) $$ H
  iintro H
  iapply Hk
  iexists ((m.access r).write (Elt F) f w Finset.univ)
  isplitr; · ipureintro; exact View.read_write_univ (v := m.access r) f w
  iexact H

/-- The rectangle of all of a shape places every index at itself. -/
theorem emb_all {sh : Shape} (o : Fin sh.rank → Nat) (ho : ∀ a, o a = 0) (inb) (j : sh.Idx) : (Rect.unit (s := sh) o sh.size inb).emb j = j := by
  funext a
  refine Fin.ext ?_
  show o a + 1 * (j a).val = _
  rw [ho a]; omega

/-- A store over the whole of an owned memref. -/
theorem st_all (c : Dev nD) (Q : PUnit → sProp 𝕄) {sh : Shape} {e : EltTy} (m : Memref sig .tc .vmem sh e) (o : Fin sh.rank → Nat) (ho : ∀ a, o a = 0) (inb) {hx : (m.access (Rect.unit (s := sh) o sh.size inb)).Stores Finset.univ} {hm}
    (X w : sh.Idx → Elt F e) (K : PUnit → P F) :
    (owns (c : Thread nD τ) m fullShare X : sProp 𝕄)
      ⊢ iprop((owns (c : Thread nD τ) m fullShare w -∗ WP c (K ⟨⟩) Q)
        -∗ WP c (.op (.store m (Rect.unit (s := sh) o sh.size inb) w Finset.univ hx hm) K) Q) := by
  unfold owns
  iintro ⟨%f, %hf, H⟩ Hk
  iapply (wp_store 𝒱₀ (c : Thread nD τ) none Set.univ (m := m) (r := Rect.unit (s := sh) o sh.size inb) (w := w) (Mk := Finset.univ) (f := f)
    (View.set_slice_subset _ _)) $$ H
  iintro H
  iapply Hk
  iexists ((m.access (Rect.unit (s := sh) o sh.size inb)).write (Elt F) f w Finset.univ)
  isplitr
  · ipureintro
    funext j
    have h := View.read_slice_write_emb (v := m.view) (Rect.unit (s := sh) o sh.size inb) f w (x := j) (Finset.mem_univ _)
    rw [emb_all o ho inb j] at h
    exact h
  iexact H

/-- A load of the whole of an owned memref. -/
theorem ld_all (c : Dev nD) (Q : PUnit → sProp 𝕄) {sh : Shape} {e : EltTy} (m : Memref sig .tc .vmem sh e) (o : Fin sh.rank → Nat) (ho : ∀ a, o a = 0) (inb) {hl : m.view.LoadsAt (Rect.unit (s := sh) o sh.size inb).toLoadRect}
    (q : PosShare TreeShare) (X : sh.Idx → Elt F e) (K : (sh.Idx → Elt F e) → P F) :
    (owns (c : Thread nD τ) m q X : sProp 𝕄)
      ⊢ iprop((owns (c : Thread nD τ) m q X -∗ WP c (K X) Q) -∗ WP c (.op (.load m (Rect.unit (s := sh) o sh.size inb).toLoadRect hl) K) Q) := by
  have h := ld_part c Q m (Rect.unit (s := sh) o sh.size inb) (hl := hl) q X K
  rw [show (fun j => X ((Rect.unit (s := sh) o sh.size inb).emb j)) = X from funext fun j => by rw [emb_all o ho inb j]] at h
  exact h

end rules

/-- A landing slot without its leading axis is the same place. -/
theorem slot_set (p : Part) (s : Fin 7) : ((buf p).access (slotR p s)).set = (slotM p s).view.set :=
  (View.set_reshape ((buf p).access (slotR p s)) (squeezes_slot p).numel_eq).symm

/-- A load of a landing slot reads, without its leading axis, what the slot holds. -/
theorem ld_slot (c : Dev nD) (Q : PUnit → sProp 𝕄) (p : Part) (s : Fin 7) (q : PosShare TreeShare) (Y : Vec F (SC p) .bf16)
    (K : Vec F (SS p) .bf16 → P F) :
    (owns (c : Thread nD τ) (slotM p s) q Y : sProp 𝕄)
      ⊢ iprop((∀ w : Vec F (SS p) .bf16, ⌜shapeCast (SC p) w (casts_SS p) = Y⌝ -∗ owns (c : Thread nD τ) (slotM p s) q Y -∗ WP c (K w) Q)
        -∗ WP c (ldS p s K) Q) := by
  unfold owns ldS
  iintro ⟨%f, %hf, H⟩ Hk
  ihave H := (show (((slotM p s).view.loc (c : Thread nD τ) ↦[(slotM p s).view.set]{q} f) : sProp 𝕄)
    ⊢ ((((buf p).access (slotR p s)).loc (c : Thread nD τ)) ↦[(slotM p s).view.set]{q} f) from entails_refl _) $$ H
  iapply (wp_load_rect 𝒱₀ (c : Thread nD τ) none Set.univ (m := buf p) (r := slotR p s) (q := q) (f := f)
    (S := (slotM p s).view.set) (Finset.Subset.antisymm_iff.mp (slot_set p s)).1) $$ H
  iintro H
  iapply Hk $$ %(((buf p).access (slotR p s)).read (Elt F) f)
  · ipureintro; rw [← hf]; rfl
  iexists f
  isplitr; · ipureintro; exact hf
  iexact H

/-! ## Finite separating conjunctions with one entry changed -/

section upd

variable {A : Type} [Fintype A] [DecidableEq A] {B : A → Type}

theorem sep_split (Φ : A → sProp 𝕄) (i : A) :
    bigSep Finset.univ Φ = iprop(Φ i ∗ bigSep (Finset.univ.erase i) Φ) := bigSep_univ_split i

/-- Take one entry of a family out, to put another back. -/
theorem bigSep_upd {S : Type} (Φ : A → S → sProp 𝕄) (f : A → S) (i : A) :
    (bigSep Finset.univ fun j => Φ j (f j))
      ⊢ iprop(Φ i (f i) ∗ (∀ v : S, Φ i v -∗ bigSep Finset.univ fun j => Φ j (Function.update f i v j))) := by
  rw [sep_split _ i]
  iintro ⟨H, Hr⟩
  isplitl [H]; · iexact H
  iintro %v Hv
  rw [sep_split (fun j => Φ j (Function.update f i v j)) i, Function.update_self]
  isplitl [Hv]; · iexact Hv
  rw [bigSep_congr (Φ := fun j => Φ j (Function.update f i v j)) (Ψ := fun j => Φ j (f j))
    (fun j hj => by rw [Function.update_of_ne (Finset.ne_of_mem_erase hj)])]
  iexact Hr

end upd

end Moe
-- ==== Proof.Moe.Xfer.lean ====
/- The four transfer steps: sends and waits of the reduction and of the gather. -/
module

public import proofs.«01_k».proof.Proof.Moe.Rules

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem nb_nb (d : Dev nD) (g j : Fin 8) : nb (nb d g) j = nb d (g ^^^ j) := by revert d g j; decide +kernel
theorem nb_zero (d : Dev nD) : nb d 0 = d := by revert d; decide
theorem nb_self (d : Dev nD) (g : Fin 8) : nb (nb d g) g = d := by revert d g; decide
theorem nb_shift (d : Dev nD) (g j : Fin 8) : nb (nb d g) (g ^^^ j) = nb d j := by revert d g j; decide +kernel

theorem sep_at {A : Type} [Fintype A] [DecidableEq A] (Φ : A → sProp 𝕄) (i : A) : bigSep Finset.univ Φ ⊢ Φ i := bigSep_elim (Finset.mem_univ i)

section ctx

variable (I : Dev nD → Inputs F) (κ : Dev nD × Kd → ℕ)

/-- What every device knows: the cells' invariants, that each is at round 0, and the levels. -/
def Ctx : sProp 𝕄 :=
  iprop((bigSep Finset.univ fun ck : Dev nD × Kd => cellInv ER (Rd I) (κ ck) (cell ck.1 ck.2))
    ∗ (bigSep Finset.univ fun ck : Dev nD × Kd => reached ER (cell ck.1 ck.2) 0)
    ∗ levAts L lv)

instance Ctx_persistent : BI.Persistent (Ctx I κ) := by unfold Ctx; infer_instance

theorem Ctx_inv (c : Dev nD) (k : Kd) : Ctx I κ ⊢ cellInv ER (Rd I) (κ (c, k)) (cell c k) := by
  unfold Ctx
  iintro ⟨H, -, -⟩
  ihave H := (sep_at (fun ck : Dev nD × Kd => cellInv ER (Rd I) (κ ck) (cell ck.1 ck.2)) (c, k)) $$ H
  iexact H

theorem Ctx_reached (c : Dev nD) (k : Kd) : Ctx I κ ⊢ (reached ER (cell c k) 0 : sProp 𝕄) := by
  unfold Ctx
  iintro ⟨-, H, -⟩
  ihave H := (sep_at (fun ck : Dev nD × Kd => (reached ER (cell ck.1 ck.2) 0 : sProp 𝕄)) (c, k)) $$ H
  iexact H

theorem Ctx_lev : Ctx I κ ⊢ (levAts L lv : sProp 𝕄) := by
  unfold Ctx
  iintro ⟨-, -, H⟩
  iexact H

variable (c : Dev nD)

/-- One's own cells of a transfer, before any wait. -/
def own0 (i : Fin 4) (ps : PS) : sProp 𝕄 := atPos ER (tc c i ps) 0 ∅ 0
/-- One's own cells of a transfer, after the wait. -/
def own1 (i : Fin 4) (ps : PS) : sProp 𝕄 := atPos ER (tc c i ps) 1 ∅ 0
/-- The credit of a transfer's cell. -/
def cr (i : Fin 4) (ps : PS) : sProp 𝕄 := cred (tallyAt (tc c i ps) () (N ps.1))
/-- The duty of a transfer's cell. -/
def tok (i : Fin 4) (ps : PS) : sProp 𝕄 := dutyTok ER (tc c i ps) 0 0

/-- What a written memref holds. -/
theorem owns_written {n : Dev nD} {sh : Shape} {e : EltTy} (m : Memref sig .tc .vmem sh e) (f : Buf (Elt F) (m.view.loc (n : Thread nD τ)))
    (w : sh.Idx → Elt F e) :
    ((m.view.loc (n : Thread nD τ) ↦[m.view.set]{fullShare} (m.view.write (Elt F) f w Finset.univ)) : sProp 𝕄) ⊢ owns (n : Thread nD τ) m fullShare w := by
  unfold owns
  iintro H
  iexists (m.view.write (Elt F) f w Finset.univ)
  isplitr; · ipureintro; exact View.read_write_univ (v := m.view) f w
  iexact H

/-- A transfer that hands the source over with the landing. -/
theorem send_landing (Q : PUnit → sProp 𝕄) (n : Dev nD) (k1 k2 : Kd) {sh : Shape} {e : EltTy} (src dst : Memref sig .tc .vmem sh e) {h1 h2 h3 h4}
    (M : Nat) (hN : dst.view.amount (csem k2) = M) (ha1 : amountOf k1 = M) (ha2 : amountOf k2 = M) (hd1 : 0 ∈ dutiesOf k1) (hd2 : 0 ∈ dutiesOf k2)
    (X Y : sh.Idx → Elt F e) (O₀ O : CellTallies nD τ sig Unit) (hO : O₀ = O + tallyAt (cell n k2) () M) (W : Waits sig Unit)
    (hp1 : (iprop(emp) : sProp 𝕄) ⊢ pay I c k1 0)
    (hp2 : iprop(owns (n : Thread nD τ) dst fullShare X ∗ owns (c : Thread nD τ) src fullShare X) ⊢ pay I n k2 0) (k : PUnit → P F) :
    iprop(Ctx I κ ∗ owns (c : Thread nD τ) src fullShare X ∗ owns (n : Thread nD τ) dst fullShare Y
        ∗ owes (c : Thread nD τ) O₀ W ∗ dutyTok ER (cell c k1) 0 0 ∗ dutyTok ER (cell n k2) 0 0)
      ⊢ iprop(((cred (tallyAt (cell c k1) () M) ∗ owes (c : Thread nD τ) O W) -∗ WP c (k ⟨⟩) Q)
        -∗ WP c (.op (.enqueueDma src (.remote (Dev.tc n) dst (csem k1) h1) (csem k2) h2 h3 h4) k) Q) := by
  iintro ⟨#HC, Hs, Hd, HO, Ht, Ht'⟩ Hk
  ihave #HI1 := (Ctx_inv I κ c k1) $$ HC
  ihave #HI2 := (Ctx_inv I κ n k2) $$ HC
  ihave #HR1 := (Ctx_reached I κ c k1) $$ HC
  ihave #HR2 := (Ctx_reached I κ n k2) $$ HC
  unfold owns
  icases Hs with ⟨%fs, %hfs, Hs⟩
  icases Hd with ⟨%fd, %hfd, Hd⟩
  have hpay₂ : iprop((dst.view.loc (n : Thread nD τ) ↦[dst.view.set]{fullShare} (dst.view.write (Elt F) fd (src.view.read (Elt F) fs) Finset.univ))
              ∗ (src.view.loc (c : Thread nD τ) ↦[src.view.set]{fullShare} fs)) ⊢ (Rd I).payload (cell n k2) 0 0 := by
    rw [payload_cell I n k2 0 0, hfs]
    refine entails_trans ?_ hp2
    iintro ⟨Hd, Hs⟩
    isplitl [Hd]; · iapply (owns_written dst fd _); iexact Hd
    unfold owns
    iexists fs
    isplitr; · ipureintro; exact hfs
    iexact Hs
  iapply (Rounds.wp_send_landing_pointsTo 𝒱₀ ER (Rd I) (c : Thread nD τ) none (c' := (n : Thread nD τ)) (src := src) (dst := dst)
    (sS := csem k1) (sem := csem k2) (κ₁ := κ (c, k1)) (κ₂ := κ (n, k2))
    (r₁ := 0) (r₂ := 0) (d₁ := 0) (d₂ := 0) (fs := fs) (fd := fd) (q := fullShare)
    (by rw [duties_cell]; exact hd1) (by rw [duties_cell]; exact hd2) () () M hN
    ((amount_cell I c k1 0 0).trans ha1) ((amount_cell I n k2 0 0).trans ha2)
    O hO (W := W) (by rw [payload_cell I c k1 0 0]; exact hp1) hpay₂) $$ [Hs Hd HO Ht Ht']
  · isplitr; · iexact HI1
    isplitr; · iexact HI2
    isplitl [Hs]; · iexact Hs
    isplitl [Hd]; · iexact Hd
    isplitl [HO]; · iexact HO
    isplitl [Ht]; · iexact Ht
    isplitr; · iexact HR1
    isplitl [Ht']; · iexact Ht'
    iexact HR2
  iexact Hk

/-- A transfer that hands the source's share back when it is sent. -/
theorem send_back (Q : PUnit → sProp 𝕄) (n : Dev nD) (k1 k2 : Kd) {sh : Shape} {e : EltTy} (src dst : Memref sig .tc .vmem sh e) {h1 h2 h3 h4}
    (q : PosShare TreeShare)
    (M : Nat) (hN : dst.view.amount (csem k2) = M) (ha1 : amountOf k1 = M) (ha2 : amountOf k2 = M) (hd1 : 0 ∈ dutiesOf k1) (hd2 : 0 ∈ dutiesOf k2)
    (X Y : sh.Idx → Elt F e) (O₀ O : CellTallies nD τ sig Unit) (hO : O₀ = O + tallyAt (cell n k2) () M) (W : Waits sig Unit)
    (hp1 : owns (c : Thread nD τ) src q X ⊢ pay I c k1 0)
    (hp2 : owns (n : Thread nD τ) dst fullShare X ⊢ pay I n k2 0) (k : PUnit → P F) :
    iprop(Ctx I κ ∗ owns (c : Thread nD τ) src q X ∗ owns (n : Thread nD τ) dst fullShare Y
        ∗ owes (c : Thread nD τ) O₀ W ∗ dutyTok ER (cell c k1) 0 0 ∗ dutyTok ER (cell n k2) 0 0)
      ⊢ iprop(((cred (tallyAt (cell c k1) () M) ∗ owes (c : Thread nD τ) O W) -∗ WP c (k ⟨⟩) Q)
        -∗ WP c (.op (.enqueueDma src (.remote (Dev.tc n) dst (csem k1) h1) (csem k2) h2 h3 h4) k) Q) := by
  iintro ⟨#HC, Hs, Hd, HO, Ht, Ht'⟩ Hk
  ihave #HI1 := (Ctx_inv I κ c k1) $$ HC
  ihave #HI2 := (Ctx_inv I κ n k2) $$ HC
  ihave #HR1 := (Ctx_reached I κ c k1) $$ HC
  ihave #HR2 := (Ctx_reached I κ n k2) $$ HC
  unfold owns
  icases Hs with ⟨%fs, %hfs, Hs⟩
  icases Hd with ⟨%fd, %hfd, Hd⟩
  have hpay₁ : ((src.view.loc (c : Thread nD τ) ↦[src.view.set]{q} fs) : sProp 𝕄) ⊢ (Rd I).payload (cell c k1) 0 0 := by
    rw [payload_cell I c k1 0 0]
    refine entails_trans ?_ hp1
    unfold owns
    iintro Hs
    iexists fs
    isplitr; · ipureintro; exact hfs
    iexact Hs
  have hpay₂ : ((dst.view.loc (n : Thread nD τ) ↦[dst.view.set]{fullShare} (dst.view.write (Elt F) fd (src.view.read (Elt F) fs) Finset.univ)) : sProp 𝕄)
      ⊢ (Rd I).payload (cell n k2) 0 0 := by
    rw [payload_cell I n k2 0 0, hfs]
    exact entails_trans (owns_written dst fd _) hp2
  iapply (Rounds.wp_send_pointsTo 𝒱₀ ER (Rd I) (c : Thread nD τ) none (c' := (n : Thread nD τ)) (src := src) (dst := dst)
    (sS := csem k1) (sem := csem k2) (κ₁ := κ (c, k1)) (κ₂ := κ (n, k2))
    (r₁ := 0) (r₂ := 0) (d₁ := 0) (d₂ := 0) (fs := fs) (fd := fd) (q := q)
    (by rw [duties_cell]; exact hd1) (by rw [duties_cell]; exact hd2) () () M hN
    ((amount_cell I c k1 0 0).trans ha1) ((amount_cell I n k2 0 0).trans ha2)
    O hO (W := W) hpay₁ hpay₂) $$ [Hs Hd HO Ht Ht']
  · isplitr; · iexact HI1
    isplitr; · iexact HI2
    isplitl [Hs]; · iexact Hs
    isplitl [Hd]; · iexact Hd
    isplitl [HO]; · iexact HO
    isplitl [Ht]; · iexact Ht
    isplitr; · iexact HR1
    isplitl [Ht']; · iexact Ht'
    iexact HR2
  iexact Hk

/-- A wait for a transfer's cell: its payload comes. -/
theorem wait_rule (Q : PUnit → sProp 𝕄) (i : Fin 4) (ps : PS) {w : TpuEff nD τ sig (Elt F) Λ₀ .tc PUnit} (M : Nat) (hM : M = N ps.1)
    (hw : ∀ K : PUnit → sProp 𝕄, wpE (defs₀ (F := F)) 𝒱₀ (c : Thread nD τ) none Set.univ w K = waitSpec (c : Thread nD τ) Set.univ (csem (some (i, ps))) M K)
    (l : List Snd) (hl : ∀ t ∈ l, level (some (i, ps)) < level (sndK t)) (W : Waits sig Unit) (k : PUnit → P F) :
    iprop(Ctx I κ ∗ cr c i ps ∗ own0 c i ps ∗ owes (c : Thread nD τ) (owed c l) W)
      ⊢ iprop((∀ W', (own1 c i ps ∗ pay I c (some (i, ps)) 0 ∗ owes (c : Thread nD τ) (owed c l) W') -∗ WP c (k ⟨⟩) Q)
        -∗ WP c (.op w k) Q) := by
  subst hM
  unfold cr own0 own1
  iintro ⟨#HC, Hc, Ha, HO⟩ Hk
  ihave #HI := (Ctx_inv I κ c (some (i, ps))) $$ HC
  ihave #Hlev := (Ctx_lev I κ) $$ HC
  iapply (Rounds.wp_wait_rest_token 𝒱₀ ER (Rd I) (c : Thread nD τ) none (κ := κ (c, some (i, ps))) hw (Set.mem_univ _) ()
    (O := owed c l) (W := W) (R := 0) (m := 0) (T := ∅) (by rw [Nat.zero_add]; exact (expect_tc I c i ps).symm)) $$ [Hc HO Ha]
  · isplitr; · iexact HI
    isplitl [Hc]; · iexact Hc
    isplitl [HO]; · iexact HO
    isplitr; · iapply (mayWait_cell c (some (i, ps)) l hl); iexact Hlev
    iexact Ha
  iintro ⟨HO, Ha, -, Hp⟩
  ihave Hp := (Entails.of_eq (rest_tc I c i ps)) $$ Hp
  iapply Hk $$ %(insert (csem (some (i, ps)), ()) W) [Ha Hp HO]
  isplitl [Ha]; · iexact Ha
  isplitl [Hp]; · iexact Hp
  iexact HO

/-- Sending a chunk of the reduction: the chunk and the neighbour's slot go, the sent cell's credit comes. -/
theorem rsSend_rule (Q : PUnit → sProp 𝕄) (p : Part) (s : Fin 7) (W : Waits sig Unit) (l : List Snd) (K : P F) :
    iprop(Ctx I κ ∗ owns (c : Thread nD τ) (chunkM p (nb c (G p s ^^^ J p s))) fullShare (run I p (rnd s).val c (nb c (G p s ^^^ J p s)))
        ∗ raw (F := F) (nb c (G p s)) (slotM p s) ∗ tok (F := F) c 0 (p, s) ∗ tok (F := F) (nb c (G p s)) 1 (p, s)
        ∗ owes (c : Thread nD τ) (owed c ((false, p, s) :: l)) W)
      ⊢ iprop(((cr (F := F) c 0 (p, s) ∗ owes (c : Thread nD τ) (owed c l) W) -∗ WP c K Q) -∗ WP c (evRsSend c p s K) Q) := by
  have key : ∀ (q : Fin 8) (o : Fin 2 → Nat) (ho : o = ![256 * q.val, 0]) (hq : q = nb c (G p s ^^^ J p s)) (n : Dev nD) (hn : n = nb c (G p s))
      (h1) (h2) (h3) (h4),
      iprop(Ctx I κ ∗ owns (c : Thread nD τ) (chunkM p (nb c (G p s ^^^ J p s))) fullShare (run I p (rnd s).val c (nb c (G p s ^^^ J p s)))
        ∗ raw (F := F) (nb c (G p s)) (slotM p s) ∗ tok (F := F) c 0 (p, s) ∗ tok (F := F) (nb c (G p s)) 1 (p, s)
        ∗ owes (c : Thread nD τ) (owed c ((false, p, s) :: l)) W)
      ⊢ iprop(((cr (F := F) c 0 (p, s) ∗ owes (c : Thread nD τ) (owed c l) W) -∗ WP c K Q)
        -∗ WP c (.op (.enqueueDma (chunkAt p o (inb_chunk p q o ho)) (.remote (Dev.tc n) (slotM p s) (.dma (rsS p s)) h1) (.dma (rsR p s)) h2 h3 h4) fun _ => K) Q) := by
    intro q o ho hq n hn h1 h2 h3 h4
    subst hn hq ho
    unfold raw
    iintro ⟨#HC, Hs, ⟨%Y, Hd⟩, Ht, Ht', HO⟩ Hk
    iapply (send_landing I κ c Q (nb c (G p s)) (some (0, p, s)) (some (1, p, s)) (chunkM p (nb c (G p s ^^^ J p s))) (slotM p s)
      (N p) rfl rfl rfl (Finset.mem_singleton_self _) (Finset.mem_singleton_self _) (run I p (rnd s).val c (nb c (G p s ^^^ J p s))) Y
      (owed c ((false, p, s) :: l)) (owed c l) rfl W (entails_refl _)
      (by
        show _ ⊢ rsPay I (nb c (G p s)) (p, s)
        unfold rsPay raw
        dsimp only
        rw [nb_self, nb_nb]
        iintro ⟨Hd, Hs⟩
        isplitl [Hd]; · iexact Hd
        iexists (run I p (rnd s).val c (nb c (G p s ^^^ J p s)))
        iexact Hs) (fun _ => K)) $$ [Hs Hd HO Ht Ht']
    · isplitr; · iexact HC
      isplitl [Hs]; · iexact Hs
      isplitl [Hd]; · iexact Hd
      isplitl [HO]; · iexact HO
      isplitl [Ht]; · unfold tok; iexact Ht
      unfold tok; iexact Ht'
    unfold cr
    iexact Hk
  unfold evRsSend
  exact key _ _ (off2_eq c (G p s) (J p s) 0) (nb_nb c (G p s) (J p s)) _ (Fin.ext (devNat_eq c (G p s))) _ _ _ _

/-- Waiting for both reduction transfers of a slot. -/
theorem rsWait_rule (Q : PUnit → sProp 𝕄) (p : Part) (s : Fin 7) (W : Waits sig Unit) (l : List Snd)
    (hl : ∀ t ∈ l, 2 + (rnd s).val < level (sndK t)) (K : P F) :
    iprop(Ctx I κ ∗ cr (F := F) c 0 (p, s) ∗ own0 (F := F) c 0 (p, s) ∗ cr (F := F) c 1 (p, s) ∗ own0 (F := F) c 1 (p, s) ∗ owes (c : Thread nD τ) (owed c l) W)
      ⊢ iprop((∀ W', (own1 (F := F) c 0 (p, s) ∗ own1 (F := F) c 1 (p, s) ∗ rsPay I c (p, s) ∗ owes (c : Thread nD τ) (owed c l) W') -∗ WP c K Q)
        -∗ WP c (evRsWait c p s K) Q) := by
  unfold evRsWait
  iintro ⟨#HC, Hc, Ha, Hc', Ha', HO⟩ Hk
  iapply (wait_rule I κ c Q 0 (p, s) (N p) rfl (fun K => by
      rw [← credit_chunk p _ (inb_chunk p _ _ (off2_eq c (G p s) (J p s) 0))]; exact wpE_waitDma2_eq 𝒱₀ (c : Thread nD τ) none Set.univ K) l
    (fun t ht => by have := hl t ht; show 0 < _; omega) W _) $$ [Hc Ha HO]
  · isplitr; · iexact HC
    isplitl [Hc]; · iexact Hc
    isplitl [Ha]; · iexact Ha
    iexact HO
  iintro %W1 ⟨Ha, -, HO⟩
  iapply (wait_rule I κ c Q 1 (p, s) (N p) rfl (fun K => by
      rw [← credit_slot p s]; exact wpE_waitDma2_eq 𝒱₀ (c : Thread nD τ) none Set.univ K) l hl W1 _) $$ [Hc' Ha' HO]
  · isplitr; · iexact HC
    isplitl [Hc']; · iexact Hc'
    isplitl [Ha']; · iexact Ha'
    iexact HO
  iintro %W2 ⟨Ha', Hp, HO⟩
  ihave Hp := (show pay I c (some (1, p, s)) 0 ⊢ rsPay I c (p, s) from entails_refl _) $$ Hp
  iapply Hk $$ %W2 [Ha Ha' Hp HO]
  isplitl [Ha]; · iexact Ha
  isplitl [Ha']; · iexact Ha'
  isplitl [Hp]; · iexact Hp
  iexact HO

/-- Sending a finished chunk of the gather: half of it and the neighbour's chunk go, the sent cell's credit comes. -/
theorem agSend_rule (Q : PUnit → sProp 𝕄) (p : Part) (s : Fin 7) (W : Waits sig Unit) (l : List Snd) (K : P F) :
    iprop(Ctx I κ ∗ owns (c : Thread nD τ) (chunkM p (nb c (J p s))) fullShare.right (fin I p (nb c (J p s)))
        ∗ raw (F := F) (nb c (G p s)) (chunkM p (nb c (J p s))) ∗ tok (F := F) c 2 (p, s) ∗ tok (F := F) (nb c (G p s)) 3 (p, s)
        ∗ owes (c : Thread nD τ) (owed c ((true, p, s) :: l)) W)
      ⊢ iprop(((cr (F := F) c 2 (p, s) ∗ owes (c : Thread nD τ) (owed c l) W) -∗ WP c K Q) -∗ WP c (evAgSend c p s K) Q) := by
  have key : ∀ (q : Fin 8) (o : Fin 2 → Nat) (ho : o = ![256 * q.val, 0]) (hq : q = nb c (J p s)) (n : Dev nD) (hn : n = nb c (G p s))
      (h1) (h2) (h3) (h4),
      iprop(Ctx I κ ∗ owns (c : Thread nD τ) (chunkM p (nb c (J p s))) fullShare.right (fin I p (nb c (J p s)))
        ∗ raw (F := F) (nb c (G p s)) (chunkM p (nb c (J p s))) ∗ tok (F := F) c 2 (p, s) ∗ tok (F := F) (nb c (G p s)) 3 (p, s)
        ∗ owes (c : Thread nD τ) (owed c ((true, p, s) :: l)) W)
      ⊢ iprop(((cr (F := F) c 2 (p, s) ∗ owes (c : Thread nD τ) (owed c l) W) -∗ WP c K Q)
        -∗ WP c (.op (.enqueueDma (chunkAt p o (inb_chunk p q o ho)) (.remote (Dev.tc n) (chunkAt p o (inb_chunk p q o ho)) (.dma (agS p s)) h1)
            (.dma (agR p s)) h2 h3 h4) fun _ => K) Q) := by
    intro q o ho hq n hn h1 h2 h3 h4
    subst hn hq ho
    unfold raw
    iintro ⟨#HC, Hs, ⟨%Y, Hd⟩, Ht, Ht', HO⟩ Hk
    iapply (send_back I κ c Q (nb c (G p s)) (some (2, p, s)) (some (3, p, s)) (chunkM p (nb c (J p s))) (chunkM p (nb c (J p s))) fullShare.right
      (N p) (credit_chunk p _ _) rfl rfl (Finset.mem_singleton_self _) (Finset.mem_singleton_self _) (fin I p (nb c (J p s))) Y
      (owed c ((true, p, s) :: l)) (owed c l) rfl W
      (entails_refl _)
      (by
        show _ ⊢ agPay I (nb c (G p s)) (p, s)
        unfold agPay
        dsimp only
        rw [nb_shift]) (fun _ => K)) $$ [Hs Hd HO Ht Ht']
    · isplitr; · iexact HC
      isplitl [Hs]; · iexact Hs
      isplitl [Hd]; · iexact Hd
      isplitl [HO]; · iexact HO
      isplitl [Ht]; · unfold tok; iexact Ht
      unfold tok; iexact Ht'
    unfold cr
    iexact Hk
  unfold evAgSend
  exact key _ _ (off1_eq c (J p s) 0) rfl _ (Fin.ext (devNat_eq c (G p s))) _ _ _ _

/-- Waiting for both gather transfers of a slot. -/
theorem agWait_rule (Q : PUnit → sProp 𝕄) (p : Part) (s : Fin 7) (W : Waits sig Unit) (l : List Snd)
    (hl : ∀ t ∈ l, 7 - (rnd s).val < level (sndK t)) (K : P F) :
    iprop(Ctx I κ ∗ cr (F := F) c 2 (p, s) ∗ own0 (F := F) c 2 (p, s) ∗ cr (F := F) c 3 (p, s) ∗ own0 (F := F) c 3 (p, s) ∗ owes (c : Thread nD τ) (owed c l) W)
      ⊢ iprop((∀ W', (own1 (F := F) c 2 (p, s) ∗ own1 (F := F) c 3 (p, s) ∗ agBack I c (p, s) ∗ agPay I c (p, s) ∗ owes (c : Thread nD τ) (owed c l) W') -∗ WP c K Q)
        -∗ WP c (evAgWait c p s K) Q) := by
  unfold evAgWait
  iintro ⟨#HC, Hc, Ha, Hc', Ha', HO⟩ Hk
  iapply (wait_rule I κ c Q 2 (p, s) (N p) rfl (fun K => by
      rw [← credit_chunk p _ (inb_chunk p _ _ (off1_eq c (J p s) 0))]; exact wpE_waitDma2_eq 𝒱₀ (c : Thread nD τ) none Set.univ K) l
    (fun t ht => by have := hl t ht; show 0 < _; omega) W _) $$ [Hc Ha HO]
  · isplitr; · iexact HC
    isplitl [Hc]; · iexact Hc
    isplitl [Ha]; · iexact Ha
    iexact HO
  iintro %W1 ⟨Ha, Hb, HO⟩
  iapply (wait_rule I κ c Q 3 (p, s) (N p) rfl (fun K => by
      rw [← credit_chunk p _ (inb_chunk p _ _ (off1_eq c (J p s) 0))]; exact wpE_waitDma2_eq 𝒱₀ (c : Thread nD τ) none Set.univ K) l hl W1 _) $$ [Hc' Ha' HO]
  · isplitr; · iexact HC
    isplitl [Hc']; · iexact Hc'
    isplitl [Ha']; · iexact Ha'
    iexact HO
  iintro %W2 ⟨Ha', Hp, HO⟩
  ihave Hb := (show pay I c (some (2, p, s)) 0 ⊢ agBack I c (p, s) from entails_refl _) $$ Hb
  ihave Hp := (show pay I c (some (3, p, s)) 0 ⊢ agPay I c (p, s) from entails_refl _) $$ Hp
  iapply Hk $$ %W2 [Ha Ha' Hb Hp HO]
  isplitl [Ha]; · iexact Ha
  isplitl [Ha']; · iexact Ha'
  isplitl [Hb]; · iexact Hb
  isplitl [Hp]; · iexact Hp
  iexact HO

end ctx

end Moe
-- ==== Proof.Moe.Steps.lean ====
/- The steps a device makes on its own: local sums, additions, the shared product, the output blocks. -/
module

public import proofs.«01_k».proof.Proof.Moe.Xfer

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem two_zero : ∀ a : Fin 2, (![0, 0] : Fin 2 → Nat) a = 0 := by decide

/-! ## Chunks of a running sum and blocks of the output -/

/-- The eight chunks around device `c`. -/
def nbEquiv (c : Dev nD) : Fin 8 ≃ Fin 8 where
  toFun x := nb c x
  invFun y := nb c y
  left_inv x := by revert c x; decide +kernel
  right_inv x := by revert c x; decide +kernel

theorem chunk_disj (p : Part) (q q' : Fin 8) (h : q ≠ q') : Disjoint (cR p q).set (cR p q').set := by
  refine Rect.unit_disjoint (0 : Fin 2) ?_
  show 256 * q.val + 256 ≤ 256 * q'.val ∨ 256 * q'.val + 256 ≤ 256 * q.val
  have : q.val ≠ q'.val := fun e => h (Fin.ext e)
  omega

theorem chunk_cover (p : Part) : (Finset.univ.biUnion fun q : Fin 8 => (cR p q).set) = Finset.univ := by
  ext i
  simp only [Finset.mem_biUnion, Finset.mem_univ, true_and, iff_true]
  have h0 : (i 0).val < 2048 := (i 0).isLt
  have h1 : (i 1).val < p.W := (i 1).isLt
  refine ⟨⟨(i 0).val / 256, by omega⟩, Rect.mem_set_unit.mpr fun a => ?_⟩
  match a with
  | ⟨0, _⟩ =>
    show 256 * ((i 0).val / 256) ≤ (i 0).val ∧ (i 0).val < 256 * ((i 0).val / 256) + 256
    omega
  | ⟨1, _⟩ =>
    show 0 ≤ (i 1).val ∧ (i 1).val < 0 + p.W
    omega

theorem part_sep (p p' : Part) (h : p ≠ p') : p.col + p.W ≤ p'.col ∨ p'.col + p'.W ≤ p.col := by
  revert p p'; decide

theorem block_disj (x x' : PX) (h : x ≠ x') : Disjoint (bR x.1 x.2).set (bR x'.1 x'.2).set := by
  by_cases hp : x.1 = x'.1
  · have hq : x.2.val ≠ x'.2.val := fun e => h (Prod.ext hp (Fin.ext e))
    refine Rect.unit_disjoint (0 : Fin 2) ?_
    show 256 * x.2.val + 256 ≤ 256 * x'.2.val ∨ 256 * x'.2.val + 256 ≤ 256 * x.2.val
    omega
  · exact Rect.unit_disjoint (1 : Fin 2) (part_sep _ _ hp)

theorem partOf_ge (k : Nat) (h : k < 1024) : (partOf k).col ≤ k ∧ k < (partOf k).col + (partOf k).W := by
  unfold partOf
  split_ifs <;> simp only [Part.col, Part.W] <;> omega

theorem block_cover : (Finset.univ.biUnion fun x : PX => (bR x.1 x.2).set) = Finset.univ := by
  ext i
  simp only [Finset.mem_biUnion, Finset.mem_univ, true_and, iff_true]
  have h0 : (i 0).val < 2048 := (i 0).isLt
  have h1 : (i 1).val < 1024 := (i 1).isLt
  refine ⟨(partOf (i 1).val, ⟨(i 0).val / 256, by omega⟩), Rect.mem_set_unit.mpr fun a => ?_⟩
  match a with
  | ⟨0, _⟩ =>
    show 256 * ((i 0).val / 256) ≤ (i 0).val ∧ (i 0).val < 256 * ((i 0).val / 256) + 256
    omega
  | ⟨1, _⟩ => exact partOf_ge _ h1

theorem chunkM_eq (p : Part) (q : Fin 8) : chunkM p q = (red p).slice (cR p q) (fun _ => rfl) := rfl

section steps

variable (I : Dev nD → Inputs F) (c : Dev nD)

/-- A part's running sum is its eight chunks. -/
theorem red_split (p : Part) (X : Vec F (SR p) .bf16) :
    (owns (c : Thread nD τ) (red p) fullShare X : sProp 𝕄)
      ⊢ bigSep Finset.univ fun x : Fin 8 => owns (c : Thread nD τ) (chunkM p (nb c x)) fullShare (fun j => X ((cR p (nb c x)).emb j)) := by
  have h : (owns (c : Thread nD τ) (red p) fullShare X : sProp 𝕄)
      ⊢ bigSep Finset.univ fun q : Fin 8 => owns (c : Thread nD τ) ((red p).slice (cR p q) (fun _ => rfl)) fullShare (fun j => X ((cR p q).emb j)) :=
    owns_rects (c : Thread nD τ) (red p) fullShare (cR p) (fun _ _ => rfl) (chunk_disj p) (chunk_cover p) X
  refine entails_trans h (Entails.of_eq ?_)
  exact bigSep_univ_equiv (nbEquiv c) (fun q : Fin 8 => (owns (c : Thread nD τ) ((red p).slice (cR p q) (fun _ => rfl)) fullShare (fun j => X ((cR p q).emb j)) : sProp 𝕄))

/-- Slices of a disjoint covering family, each owned at some contents, are the whole memref owned at some contents. -/
theorem raw_join {T : Type} [Fintype T] [DecidableEq T] {sh : Shape} {e : EltTy} (m : Memref sig .tc .vmem sh e) (r : T → Rect sh)
    (hr : ∀ t a, (r t).stride a = 1) (hd : ∀ t t', t ≠ t' → Disjoint (r t).set (r t').set)
    (hcov : (Finset.univ : Finset T).biUnion (fun t => (r t).set) = Finset.univ) :
    (bigSep Finset.univ fun t => raw (F := F) c (m.slice (r t) (hr t))) ⊢ (raw (F := F) c m : sProp 𝕄) := by
  classical
  unfold raw
  refine entails_trans (bigSep_exists_pi (Y := fun t => (r t).shape.Idx → Elt F e) Finset.univ
    fun t X => owns (c : Thread nD τ) (m.slice (r t) (hr t)) fullShare X) (exists_elim fun Y => ?_)
  have key : ∀ i : sh.Idx, ∃ t j, (r t).emb j = i := fun i => by
    obtain ⟨t, -, ht⟩ := Finset.mem_biUnion.mp (hcov.symm ▸ Finset.mem_univ i)
    rw [← Rect.map_emb_univ, Finset.mem_map] at ht
    obtain ⟨j, -, hj⟩ := ht
    exact ⟨t, j, hj⟩
  choose t j hj using key
  have hY : ∀ s, Y s = fun k => Y (t ((r s).emb k)) (j ((r s).emb k)) := fun s => by
    funext k
    have e1 : t ((r s).emb k) = s := by
      by_contra hne
      refine (Finset.disjoint_left.mp (hd _ _ hne) : ∀ ⦃a⦄, _ → _) (?_ : (r s).emb k ∈ _) ?_
      · rw [← Rect.map_emb_univ, Finset.mem_map]; exact ⟨_, Finset.mem_univ _, hj _⟩
      · rw [← Rect.map_emb_univ, Finset.mem_map]; exact ⟨_, Finset.mem_univ _, rfl⟩
    have gen : ∀ (u : T) (l : (r u).shape.Idx), u = s → (r u).emb l = (r s).emb k → Y s k = Y u l := by
      intro u l hu hl
      subst hu
      rw [(r u).emb.injective hl]
    exact gen _ _ e1 (hj _)
  rw [show (fun s => (owns (c : Thread nD τ) (m.slice (r s) (hr s)) fullShare (Y s) : sProp 𝕄))
    = fun s => owns (c : Thread nD τ) (m.slice (r s) (hr s)) fullShare (fun k => (fun i => Y (t i) (j i)) ((r s).emb k)) from
      funext fun s => by rw [hY s]]
  iintro H
  iexists (fun i => Y (t i) (j i))
  iapply (owns_of_rects (U := UU) (c : Thread nD τ) m fullShare r hr hd hcov (fun i => Y (t i) (j i)))
  iexact H

/-- The eight chunks are the part's running sum. -/
theorem red_join (p : Part) : (bigSep Finset.univ fun x : Fin 8 => raw (F := F) c (chunkM p (nb c x))) ⊢ (raw (F := F) c (red p) : sProp 𝕄) := by
  refine entails_trans (Entails.of_eq ?_) (raw_join c (red p) (cR p) (fun _ _ => rfl) (chunk_disj p) (chunk_cover p))
  exact (bigSep_univ_equiv (nbEquiv c) (fun q : Fin 8 => raw (F := F) c ((red p).slice (cR p q) (fun _ => rfl)))).symm

theorem slot_disj (p : Part) (s s' : Fin 7) (h : s ≠ s') : Disjoint (slotR p s).set (slotR p s').set := by
  refine Rect.unit_disjoint (0 : Fin 3) ?_
  show s.val + 1 ≤ s'.val ∨ s'.val + 1 ≤ s.val
  have : s.val ≠ s'.val := fun e => h (Fin.ext e)
  omega

theorem slot_cover (p : Part) : (Finset.univ.biUnion fun s : Fin 7 => (slotR p s).set) = Finset.univ := by
  ext i
  simp only [Finset.mem_biUnion, Finset.mem_univ, true_and, iff_true]
  have h0 : (i 0).val < 7 := (i 0).isLt
  have h1 : (i 1).val < 256 := (i 1).isLt
  have h2 : (i 2).val < p.W := (i 2).isLt
  refine ⟨⟨(i 0).val, h0⟩, Rect.mem_set_unit.mpr fun a => ?_⟩
  match a with
  | ⟨0, _⟩ =>
    show (i 0).val ≤ (i 0).val ∧ (i 0).val < (i 0).val + 1
    omega
  | ⟨1, _⟩ =>
    show 0 ≤ (i 1).val ∧ (i 1).val < 0 + 256
    omega
  | ⟨2, _⟩ =>
    show 0 ≤ (i 2).val ∧ (i 2).val < 0 + p.W
    omega

/-- The memref of a slot with its leading axis, and without. -/
theorem slot_raw (p : Part) (s : Fin 7) :
    (raw (F := F) c (slotM p s) : sProp 𝕄) ⊣⊢ raw (F := F) c ((buf p).slice (slotR p s) (fun _ => rfl)) := by
  have hs := slot_set p s
  constructor
  · unfold raw owns
    iintro ⟨%X, %f, -, H⟩
    iexists (((buf p).slice (slotR p s) (fun _ => rfl)).view.read (Elt F) f)
    iexists f
    isplitr; · ipureintro; rfl
    ihave H := (show (((slotM p s).view.loc (c : Thread nD τ) ↦[(slotM p s).view.set]{fullShare} f) : sProp 𝕄)
      ⊢ ((((buf p).slice (slotR p s) (fun _ => rfl)).view.loc (c : Thread nD τ))
          ↦[((buf p).slice (slotR p s) (fun _ => rfl)).view.set]{fullShare} f) from Entails.of_eq (by rw [← hs]; rfl)) $$ H
    iexact H
  · unfold raw owns
    iintro ⟨%X, %f, -, H⟩
    iexists ((slotM p s).view.read (Elt F) f)
    iexists f
    isplitr; · ipureintro; rfl
    ihave H := (show ((((buf p).slice (slotR p s) (fun _ => rfl)).view.loc (c : Thread nD τ)
          ↦[((buf p).slice (slotR p s) (fun _ => rfl)).view.set]{fullShare} f) : sProp 𝕄)
      ⊢ ((slotM p s).view.loc (c : Thread nD τ) ↦[(slotM p s).view.set]{fullShare} f) from Entails.of_eq (by rw [← hs]; rfl)) $$ H
    iexact H

/-- A part's landing buffer is its seven slots. -/
theorem buf_split (p : Part) : (raw (F := F) c (buf p) : sProp 𝕄) ⊢ bigSep Finset.univ fun s : Fin 7 => raw (F := F) c (slotM p s) := by
  unfold raw
  iintro ⟨%X, H⟩
  ihave H := (owns_rects (U := UU) (c : Thread nD τ) (buf p) fullShare (slotR p) (fun _ _ => rfl) (slot_disj p) (slot_cover p) X) $$ H
  ihave H := (show _ ⊢ (bigSep Finset.univ fun s : Fin 7 => raw (F := F) c (slotM p s)) from bigSep_mono fun s _ =>
    entails_trans (show (owns (c : Thread nD τ) ((buf p).slice (slotR p s) (fun _ => rfl)) fullShare (fun j => X ((slotR p s).emb j)) : sProp 𝕄)
      ⊢ raw (F := F) c ((buf p).slice (slotR p s) (fun _ => rfl)) from by
        unfold raw
        iintro H
        iexists (fun j => X ((slotR p s).emb j))
        iexact H) (slot_raw c p s).2) $$ H
  unfold raw
  iexact H

/-- The seven slots are the part's landing buffer. -/
theorem buf_join (p : Part) : (bigSep Finset.univ fun s : Fin 7 => raw (F := F) c (slotM p s)) ⊢ (raw (F := F) c (buf p) : sProp 𝕄) :=
  entails_trans (bigSep_mono fun s _ => (slot_raw c p s).1) (raw_join c (buf p) (slotR p) (fun _ _ => rfl) (slot_disj p) (slot_cover p))

variable (a3 : Memref sig .tc .vmem S4x512x1024 .bf16) (a4 : Memref sig .tc .vmem S512x1024 .bf16)
  (a5 : Memref sig .tc .vmem S2048x1024 .f32)

/-- Forming a part's local sum. -/
theorem loc_rule (Q : PUnit → sProp 𝕄) (p : Part) (q : PosShare TreeShare) (K : P F) :
    iprop(owns (c : Thread nD τ) a3 q (I c).ew ∗ raw (F := F) c (red p))
      ⊢ iprop((owns (c : Thread nD τ) a3 q (I c).ew ∗ (bigSep Finset.univ fun x : Fin 8 => owns (c : Thread nD τ) (chunkM p (nb c x)) fullShare (run I p 0 c (nb c x)))
          -∗ WP c K Q)
        -∗ WP c (evLoc a3 (tokens (I c).x) (coefAt c (I c) 0#32) (coefAt c (I c) 1#32) (coefAt c (I c) 2#32) (coefAt c (I c) 3#32) p K) Q) := by
  unfold evLoc ldW raw
  iintro ⟨Hw, ⟨%X, Hr⟩⟩ Hk
  iapply (ld_part c Q a3 (expertR p 0) q (I c).ew _) $$ Hw; iintro Hw
  iapply (ld_part c Q a3 (expertR p 1) q (I c).ew _) $$ Hw; iintro Hw
  iapply (ld_part c Q a3 (expertR p 2) q (I c).ew _) $$ Hw; iintro Hw
  iapply (ld_part c Q a3 (expertR p 3) q (I c).ew _) $$ Hw; iintro Hw
  iapply (ld_all c Q (red p) ![0, 0] two_zero (inb_red p) fullShare X _) $$ Hr; iintro Hr
  iapply (st_all c Q (red p) ![0, 0] two_zero (inb_red p) X (locS I p c) _) $$ Hr; iintro Hr
  ihave Hr := (red_split c p (locS I p c)) $$ Hr
  iapply Hk $$ [Hw Hr]
  isplitl [Hw]; · iexact Hw
  iexact Hr

/-- Forming the shared product. -/
theorem shared_rule (Q : PUnit → sProp 𝕄) (q : PosShare TreeShare) (K : P F) :
    iprop(owns (c : Thread nD τ) a4 q (I c).sw ∗ raw (F := F) c a5)
      ⊢ iprop((owns (c : Thread nD τ) a4 q (I c).sw ∗ (bigSep Finset.univ fun x : PX =>
            owns (c : Thread nD τ) (a5.slice (bR x.1 x.2) (fun _ => rfl)) fullShare (fun j => sharedAt (I c) ((bR x.1 x.2).emb j)))
          -∗ WP c K Q)
        -∗ WP c (evShared a4 a5 (tokens (I c).x) K) Q) := by
  unfold evShared raw
  iintro ⟨Hw, ⟨%X, Hr⟩⟩ Hk
  iapply (ld_all c Q a4 ![0, 0] two_zero inb_S512x1024_S512x1024_0_0 q (I c).sw _) $$ Hw; iintro Hw
  iapply (ld_all c Q a5 ![0, 0] two_zero inb_S2048x1024_S2048x1024_0_0 fullShare X _) $$ Hr; iintro Hr
  iapply (st_all c Q a5 ![0, 0] two_zero inb_S2048x1024_S2048x1024_0_0 X (sharedAt (I c)) _) $$ Hr; iintro Hr
  ihave Hr := (owns_rects (U := UU) (c : Thread nD τ) a5 fullShare (fun x : PX => bR x.1 x.2) (fun _ _ => rfl) block_disj block_cover (sharedAt (I c))) $$ Hr
  iapply Hk $$ [Hw Hr]
  isplitl [Hw]; · iexact Hw
  iexact Hr

/-- Adding a landed slot to its chunk. -/
theorem rsAdd_rule (Q : PUnit → sProp 𝕄) (p : Part) (s : Fin 7) (v y : Vec F (SC p) .bf16) (K : P F) :
    iprop(owns (c : Thread nD τ) (chunkM p (nb c (J p s))) fullShare v ∗ owns (c : Thread nD τ) (slotM p s) fullShare y)
      ⊢ iprop((owns (c : Thread nD τ) (chunkM p (nb c (J p s))) fullShare (addC p v y) ∗ owns (c : Thread nD τ) (slotM p s) fullShare y -∗ WP c K Q)
        -∗ WP c (evRsAdd c p s K) Q) := by
  have key : ∀ (q : Fin 8) (o : Fin 2 → Nat) (ho : o = ![256 * q.val, 0]) (hq : q = nb c (J p s)),
      iprop(owns (c : Thread nD τ) (chunkM p (nb c (J p s))) fullShare v ∗ owns (c : Thread nD τ) (slotM p s) fullShare y)
      ⊢ iprop((owns (c : Thread nD τ) (chunkM p (nb c (J p s))) fullShare (addC p v y) ∗ owns (c : Thread nD τ) (slotM p s) fullShare y -∗ WP c K Q)
        -∗ WP c (ldC p q o ho fun v => ldS p s fun w => ldC p q o ho fun _ => stC p q o ho (addSlot p v w) K) Q) := by
    intro q o ho hq
    subst hq ho
    unfold ldC stC
    rw [chunkM_eq]
    iintro ⟨Hc, Hs⟩ Hk
    iapply (ld_slice c Q (red p) (cR p (nb c (J p s))) (fun _ => rfl) fullShare v _) $$ Hc; iintro Hc
    iapply (ld_slot c Q p s fullShare y _) $$ Hs; iintro %w %hw Hs
    iapply (ld_slice c Q (red p) (cR p (nb c (J p s))) (fun _ => rfl) fullShare v _) $$ Hc; iintro Hc
    iapply (st_slice c Q (red p) (cR p (nb c (J p s))) (fun _ => rfl) v (addSlot p v w) _) $$ Hc; iintro Hc
    ihave Hc := (show (owns (c : Thread nD τ) ((red p).slice (cR p (nb c (J p s))) (fun _ => rfl)) fullShare (addSlot p v w) : sProp 𝕄)
      ⊢ owns (c : Thread nD τ) ((red p).slice (cR p (nb c (J p s))) (fun _ => rfl)) fullShare (addC p v y) from Entails.of_eq (by rw [addSlot_eq p v y w hw])) $$ Hc
    iapply Hk $$ [Hc Hs]
    isplitl [Hc]; · iexact Hc
    iexact Hs
  unfold evRsAdd
  exact key _ _ (off1_eq c (J p s) 0) rfl

/-- Adding a finished chunk to its output block, wherever the chunk is. -/
theorem out_core (Q : PUnit → sProp 𝕄) (p : Part) (q r : Fin 8) (hq : q = r) (o o' : Fin 2 → Nat) (ho : o = ![256 * q.val, p.col]) (ho' : o' = ![256 * q.val, 0])
    (sh : PosShare TreeShare) (K : P F) :
    iprop(owns (c : Thread nD τ) (a5.slice (bR p r) (fun _ => rfl)) fullShare (fun j => sharedAt (I c) ((bR p r).emb j))
        ∗ owns (c : Thread nD τ) (chunkM p r) sh (fin I p r))
      ⊢ iprop((owns (c : Thread nD τ) (a5.slice (bR p r) (fun _ => rfl)) fullShare (fun j => outV I c ((bR p r).emb j))
          ∗ owns (c : Thread nD τ) (chunkM p r) sh (fin I p r) -∗ WP c K Q)
        -∗ WP c (ldO a5 p q o ho fun v => ldC p q o' ho' fun w => ldO a5 p q o ho fun _ => stO a5 p q o ho (addOut p v w) K) Q) := by
  subst hq ho ho'
  rw [← addOut_eq I c p q]
  unfold ldO ldC stO
  rw [chunkM_eq]
  iintro ⟨Ho, Hc⟩ Hk
  iapply (ld_slice c Q a5 (bR p q) (fun _ => rfl) fullShare _ _) $$ Ho; iintro Ho
  iapply (ld_slice c Q (red p) (cR p q) (fun _ => rfl) sh (fin I p q) _) $$ Hc; iintro Hc
  iapply (ld_slice c Q a5 (bR p q) (fun _ => rfl) fullShare _ _) $$ Ho; iintro Ho
  iapply (st_slice c Q a5 (bR p q) (fun _ => rfl) _ (addOut p (fun j => sharedAt (I c) ((bR p q).emb j)) (fin I p q)) _) $$ Ho; iintro Ho
  iapply Hk $$ [Ho Hc]
  isplitl [Ho]; · iexact Ho
  iexact Hc

/-- Adding the device's own chunk to its output block. -/
theorem own_rule (Q : PUnit → sProp 𝕄) (p : Part) (sh : PosShare TreeShare) (K : P F) :
    iprop(owns (c : Thread nD τ) (a5.slice (bR p (nb c 0)) (fun _ => rfl)) fullShare (fun j => sharedAt (I c) ((bR p (nb c 0)).emb j))
        ∗ owns (c : Thread nD τ) (chunkM p (nb c 0)) sh (fin I p (nb c 0)))
      ⊢ iprop((owns (c : Thread nD τ) (a5.slice (bR p (nb c 0)) (fun _ => rfl)) fullShare (fun j => outV I c ((bR p (nb c 0)).emb j))
          ∗ owns (c : Thread nD τ) (chunkM p (nb c 0)) sh (fin I p (nb c 0)) -∗ WP c K Q)
        -∗ WP c (evOwn a5 c p K) Q) := by
  unfold evOwn
  exact out_core I c a5 Q p _ (nb c 0) (nb_zero c).symm _ _ (off0_eq c p.col) (off0_eq c 0) sh K

/-- Adding a gathered chunk to its output block. -/
theorem out_rule (Q : PUnit → sProp 𝕄) (p : Part) (s : Fin 7) (sh : PosShare TreeShare) (K : P F) :
    iprop(owns (c : Thread nD τ) (a5.slice (bR p (nb c (G p s ^^^ J p s))) (fun _ => rfl)) fullShare (fun j => sharedAt (I c) ((bR p (nb c (G p s ^^^ J p s))).emb j))
        ∗ owns (c : Thread nD τ) (chunkM p (nb c (G p s ^^^ J p s))) sh (fin I p (nb c (G p s ^^^ J p s))))
      ⊢ iprop((owns (c : Thread nD τ) (a5.slice (bR p (nb c (G p s ^^^ J p s))) (fun _ => rfl)) fullShare (fun j => outV I c ((bR p (nb c (G p s ^^^ J p s))).emb j))
          ∗ owns (c : Thread nD τ) (chunkM p (nb c (G p s ^^^ J p s))) sh (fin I p (nb c (G p s ^^^ J p s))) -∗ WP c K Q)
        -∗ WP c (evOut a5 c p s K) Q) := by
  unfold evOut
  exact out_core I c a5 Q p _ (nb c (G p s ^^^ J p s)) (nb_nb c _ _) _ _ (off2_eq c (G p s) (J p s) p.col) (off2_eq c (G p s) (J p s) 0) sh K

end steps

end Moe
-- ==== Proof.Moe.Machine.lean ====
/- What a device holds between its steps, as a small state that does not depend on the device, and that every step
   is sound from any state that allows it. -/
module

public import proofs.«01_k».proof.Proof.Moe.Steps
public import Idealize.ShloMosaic.Lib.MemrefSat

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A chunk of a running sum: away, held after some reduction rounds (3: finished), or finished and half lent. -/
inductive CS where
  | away | own (n : Fin 4) | half
  deriving DecidableEq

/-- A reduction transfer: not yet sent, sent, arrived, its target given away again. -/
inductive RS where
  | ready | sent | got | used
  deriving DecidableEq

/-- A gather transfer: not yet sent, sent, arrived. -/
inductive AS where
  | ready | sent | done
  deriving DecidableEq

/-- The state between two steps. -/
structure St where
  /-- A part's running sum, before it is formed, or by chunks. -/
  part : Part → Option (Fin 8 → CS)
  rs : PS → RS
  ag : PS → AS
  /-- The output, before the shared product, or which blocks are final. -/
  out : Option (PX → Bool)
  /-- The transfers still to be sent. -/
  owe : List Snd

section res

variable (I : Dev nD → Inputs F) (κ : Dev nD × Kd → ℕ) (c : Dev nD)
  (a3 : Memref sig .tc .vmem S4x512x1024 .bf16) (a4 : Memref sig .tc .vmem S512x1024 .bf16)
  (a5 : Memref sig .tc .vmem S2048x1024 .f32)

/-- A chunk's resource. -/
def chunkS (p : Part) (x : Fin 8) : CS → sProp 𝕄
  | .away => iprop(emp)
  | .own n => owns (c : Thread nD τ) (chunkM p (nb c x)) fullShare (stage I c p x n.val)
  | .half => owns (c : Thread nD τ) (chunkM p (nb c x)) fullShare.left (fin I p (nb c x))

/-- A part's resource. -/
def partR (p : Part) : Option (Fin 8 → CS) → sProp 𝕄
  | none => raw (F := F) c (red p)
  | some f => bigSep Finset.univ fun x => chunkS I c p x (f x)

/-- A reduction transfer's resource. -/
def rsRes (ps : PS) : RS → sProp 𝕄
  | .ready => iprop(raw (F := F) (nb c (G ps.1 ps.2)) (slotM ps.1 ps.2) ∗ tok (F := F) c 0 ps ∗ tok (F := F) (nb c (G ps.1 ps.2)) 1 ps
      ∗ own0 (F := F) c 0 ps ∗ own0 (F := F) c 1 ps ∗ cr (F := F) c 1 ps)
  | .sent => iprop(cr (F := F) c 0 ps ∗ own0 (F := F) c 0 ps ∗ cr (F := F) c 1 ps ∗ own0 (F := F) c 1 ps)
  | .got => iprop(own1 (F := F) c 0 ps ∗ own1 (F := F) c 1 ps ∗ rsPay I c ps)
  | .used => iprop(own1 (F := F) c 0 ps ∗ own1 (F := F) c 1 ps ∗ raw (F := F) c (slotM ps.1 ps.2))

/-- A gather transfer's resource. -/
def agRes (ps : PS) : AS → sProp 𝕄
  | .ready => iprop(tok (F := F) c 2 ps ∗ tok (F := F) (nb c (G ps.1 ps.2)) 3 ps
      ∗ own0 (F := F) c 2 ps ∗ own0 (F := F) c 3 ps ∗ cr (F := F) c 3 ps)
  | .sent => iprop(cr (F := F) c 2 ps ∗ own0 (F := F) c 2 ps ∗ cr (F := F) c 3 ps ∗ own0 (F := F) c 3 ps)
  | .done => iprop(own1 (F := F) c 2 ps ∗ own1 (F := F) c 3 ps)

/-- An output block's resource. -/
def blkR (x : PX) (b : Bool) : sProp 𝕄 :=
  owns (c : Thread nD τ) (a5.slice (bR x.1 (nb c x.2)) (fun _ => rfl)) fullShare
    (fun j => (if b then outV I c else sharedAt (I c)) ((bR x.1 (nb c x.2)).emb j))

/-- The output's resource. -/
def outR : Option (PX → Bool) → sProp 𝕄
  | none => raw (F := F) c a5
  | some g => bigSep Finset.univ fun x => blkR I c a5 x (g x)

/-- What the device owes. -/
def oweR (l : List Snd) : sProp 𝕄 := iprop(∃ W, owes (c : Thread nD τ) (owed c l) W)

/-- Everything the device holds in a state. -/
def Inv (q3 q4 : PosShare TreeShare) (σ : St) : sProp 𝕄 :=
  iprop(owns (c : Thread nD τ) a3 q3 (I c).ew ∗ owns (c : Thread nD τ) a4 q4 (I c).sw
    ∗ (bigSep Finset.univ fun p => partR I c p (σ.part p))
    ∗ (bigSep Finset.univ fun ps => rsRes I c ps (σ.rs ps))
    ∗ (bigSep Finset.univ fun ps => agRes (F := F) c ps (σ.ag ps))
    ∗ outR I c a5 σ.out ∗ oweR (F := F) c σ.owe)

end res

/-! ## The steps -/

/-- The stage a reduction transfer of slot `s` carries. -/
def rk (s : Fin 7) : Fin 4 := (rnd s).castSucc

/-- The offset of the chunk that a reduction transfer takes away and a gather transfer brings. -/
def far (p : Part) (s : Fin 7) : Fin 8 := G p s ^^^ J p s

/-- A wait at level `n` is below everything owed. -/
def below (n : Nat) (l : List Snd) : Bool := l.all fun t => decide (n < level (sndK t))

theorem below_iff {n : Nat} {l : List Snd} (h : below n l = true) : ∀ t ∈ l, n < level (sndK t) := by
  intro t ht
  exact of_decide_eq_true (List.all_eq_true.mp h t ht)

/-- A finished chunk may be read. -/
def readable : CS → Bool
  | .own n => decide (n = 3)
  | .half => true
  | .away => false

def stLoc (p : Part) (σ : St) : Option St :=
  match σ.part p with
  | none => some { σ with part := Function.update σ.part p (some fun _ => .own 0) }
  | some _ => none

def stShared (σ : St) : Option St :=
  match σ.out with
  | none => some { σ with out := some fun _ => false }
  | some _ => none

def stRsSend (p : Part) (s : Fin 7) (σ : St) : Option St :=
  match σ.part p, σ.rs (p, s), σ.owe with
  | some f, .ready, t :: l =>
    if t = (false, p, s) ∧ f (far p s) = .own (rk s) then
      some { σ with part := Function.update σ.part p (some (Function.update f (far p s) .away))
                    rs := Function.update σ.rs (p, s) .sent, owe := l }
    else none
  | _, _, _ => none

def stRsWait (p : Part) (s : Fin 7) (σ : St) : Option St :=
  match σ.rs (p, s) with
  | .sent => if below (2 + (rnd s).val) σ.owe = true then some { σ with rs := Function.update σ.rs (p, s) .got } else none
  | _ => none

def stRsAdd (p : Part) (s : Fin 7) (σ : St) : Option St :=
  match σ.part p, σ.rs (p, s) with
  | some f, .got =>
    if f (J p s) = .own (rk s) ∧ (rnd s = 2 → J p s = 0) then
      some { σ with part := Function.update σ.part p (some (Function.update f (J p s) (.own (rnd s).succ))) }
    else none
  | _, _ => none

def stAgSend (p : Part) (s : Fin 7) (σ : St) : Option St :=
  match σ.part p, σ.rs (p, s), σ.ag (p, s), σ.owe with
  | some f, .got, .ready, t :: l =>
    if t = (true, p, s) ∧ f (J p s) = .own 3 then
      some { σ with part := Function.update σ.part p (some (Function.update f (J p s) .half))
                    rs := Function.update σ.rs (p, s) .used, ag := Function.update σ.ag (p, s) .sent, owe := l }
    else none
  | _, _, _, _ => none

def stAgWait (p : Part) (s : Fin 7) (σ : St) : Option St :=
  match σ.part p, σ.ag (p, s) with
  | some f, .sent =>
    if f (J p s) = .half ∧ below (7 - (rnd s).val) σ.owe = true then
      some { σ with part := Function.update σ.part p (some (Function.update (Function.update f (J p s) (.own 3)) (far p s) (.own 3)))
                    ag := Function.update σ.ag (p, s) .done }
    else none
  | _, _ => none

def stOut (p : Part) (x : Fin 8) (σ : St) : Option St :=
  match σ.part p, σ.out with
  | some f, some g =>
    if readable (f x) = true ∧ g (p, x) = false then some { σ with out := some (Function.update g (p, x) true) } else none
  | _, _ => none

/-- One step on the state. -/
def step : Ev → St → Option St
  | .loc p => stLoc p
  | .shared => stShared
  | .rsSend p s => stRsSend p s
  | .rsWait p s => stRsWait p s
  | .rsAdd p s => stRsAdd p s
  | .agSend p s => stAgSend p s
  | .agWait p s => stAgWait p s
  | .own p => stOut p 0
  | .out p s => stOut p (far p s)

section sound

variable (I : Dev nD → Inputs F) (κ : Dev nD × Kd → ℕ) (c : Dev nD)
  (a3 : Memref sig .tc .vmem S4x512x1024 .bf16) (a4 : Memref sig .tc .vmem S512x1024 .bf16)
  (a5 : Memref sig .tc .vmem S2048x1024 .f32) (q3 q4 : PosShare TreeShare)

theorem stage_lt (p : Part) (x : Fin 8) (s : Fin 7) : stage I c p x (rk s).val = run I p (rnd s).val c (nb c x) := by
  have h := (rnd s).isLt
  exact if_neg (by show ¬ (rnd s).val = 3; omega)

theorem stage_three (p : Part) (x : Fin 8) : stage I c p x ((3 : Fin 4).val) = fin I p (nb c x) := if_pos rfl

theorem stage_succ (p : Part) (s : Fin 7) (h : rnd s = 2 → J p s = 0) :
    addC p (stage I c p (J p s) (rk s).val) (run I p (rnd s).val (nb c (G p s)) (nb c (J p s))) = stage I c p (J p s) (rnd s).succ.val := by
  rw [stage_lt]
  have e : addC p (run I p (rnd s).val c (nb c (J p s))) (run I p (rnd s).val (nb c (G p s)) (nb c (J p s)))
      = run I p ((rnd s).val + 1) c (nb c (J p s)) := by
    show _ = addC p _ (run I p (rnd s).val (nb c (p.dim (rix (rnd s).val))) _)
    have : rix (rnd s).val = rnd s := Fin.ext (Nat.mod_eq_of_lt (rnd s).isLt)
    rw [this]; rfl
  rw [e]
  by_cases h2 : rnd s = 2
  · rw [h h2, h2, nb_zero]
    exact ((if_pos rfl).trans (by unfold fin; rw [nb_zero]; rfl)).symm
  · have hlt := (rnd s).isLt
    have hne : (rnd s).val ≠ 2 := fun e => h2 (Fin.ext e)
    exact (if_neg (by show ¬ (rnd s).val + 1 = 3; omega)).symm

theorem chunk_three (p : Part) (x : Fin 8) :
    chunkS I c p x (.own 3) = owns (c : Thread nD τ) (chunkM p (nb c x)) fullShare (fin I p (nb c x)) := by
  show owns _ _ _ _ = _
  rw [stage_three]

/-- A readable chunk is owned at its final value at some share. -/
theorem readable_chunk (p : Part) (x : Fin 8) (s : CS) (h : readable s = true) :
    ∃ q : PosShare TreeShare, chunkS I c p x s = owns (c : Thread nD τ) (chunkM p (nb c x)) q (fin I p (nb c x)) := by
  cases s with
  | away => cases h
  | own n =>
    have : n = 3 := of_decide_eq_true h
    subst this
    exact ⟨fullShare, by show owns _ _ _ _ = _; rw [stage_three]⟩
  | half => exact ⟨fullShare.left, rfl⟩

/-- One entry of a family, to be put back as it was. -/
theorem sep_hold {A : Type} [Fintype A] [DecidableEq A] (Φ : A → sProp 𝕄) (i : A) :
    bigSep Finset.univ Φ ⊢ iprop(Φ i ∗ (Φ i -∗ bigSep Finset.univ Φ)) := by
  rw [sep_split Φ i]
  iintro ⟨H, Hr⟩
  isplitl [H]; · iexact H
  iintro H
  isplitl [H]; · iexact H
  iexact Hr

/-- The output's blocks, indexed around the device. -/
def blkEquiv : PX ≃ PX := (Equiv.refl Part).prodCongr (nbEquiv c)

theorem blocks_in :
    (bigSep Finset.univ fun x : PX =>
      (owns (c : Thread nD τ) (a5.slice (bR x.1 x.2) (fun _ => rfl)) fullShare (fun j => sharedAt (I c) ((bR x.1 x.2).emb j)) : sProp 𝕄))
      ⊢ outR I c a5 (some fun _ => false) :=
  Entails.of_eq (bigSep_univ_equiv (blkEquiv c) (fun x : PX =>
      (owns (c : Thread nD τ) (a5.slice (bR x.1 x.2) (fun _ => rfl)) fullShare (fun j => sharedAt (I c) ((bR x.1 x.2).emb j)) : sProp 𝕄)))

theorem blocks_out :
    outR I c a5 (some fun _ => true)
      ⊢ (bigSep Finset.univ fun x : PX =>
      (owns (c : Thread nD τ) (a5.slice (bR x.1 x.2) (fun _ => rfl)) fullShare (fun j => outV I c ((bR x.1 x.2).emb j)) : sProp 𝕄)) :=
  Entails.of_eq (bigSep_univ_equiv (blkEquiv c) (fun x : PX =>
      (owns (c : Thread nD τ) (a5.slice (bR x.1 x.2) (fun _ => rfl)) fullShare (fun j => outV I c ((bR x.1 x.2).emb j)) : sProp 𝕄))).symm

theorem sound_loc (Q : PUnit → sProp 𝕄) (p : Part) (K : P F) (σ σ' : St) (h : stLoc p σ = some σ') :
    Inv I c a3 a4 a5 q3 q4 σ ⊢ iprop((Inv I c a3 a4 a5 q3 q4 σ' -∗ WP c K Q)
      -∗ WP c (evLoc a3 (tokens (I c).x) (coefAt c (I c) 0#32) (coefAt c (I c) 1#32) (coefAt c (I c) 2#32) (coefAt c (I c) 3#32) p K) Q) := by
  unfold stLoc at h
  split at h
  case h_2 => cases h
  case h_1 hp =>
  obtain rfl := Option.some.inj h
  unfold Inv
  iintro ⟨H3, H4, HP, HR, HA, HO, HW⟩ Hk
  ihave HP := (bigSep_upd (fun p s => partR I c p s) σ.part p) $$ HP
  icases HP with ⟨Hp, HP⟩
  rw [hp]
  iapply (loc_rule I c a3 Q p q3 K) $$ [H3 Hp]
  · isplitl [H3]; · iexact H3
    unfold partR; iexact Hp
  iintro ⟨H3, Hc⟩
  ispecialize HP $$ %(some fun _ => .own 0) [Hc]
  · unfold partR; iexact Hc
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexact HW

theorem sound_shared (Q : PUnit → sProp 𝕄) (K : P F) (σ σ' : St) (h : stShared σ = some σ') :
    Inv I c a3 a4 a5 q3 q4 σ ⊢ iprop((Inv I c a3 a4 a5 q3 q4 σ' -∗ WP c K Q) -∗ WP c (evShared a4 a5 (tokens (I c).x) K) Q) := by
  unfold stShared at h
  split at h
  case h_2 => cases h
  case h_1 hp =>
  obtain rfl := Option.some.inj h
  unfold Inv
  iintro ⟨H3, H4, HP, HR, HA, HO, HW⟩ Hk
  rw [hp]
  iapply (shared_rule I c a4 a5 Q q4 K) $$ [H4 HO]
  · isplitl [H4]; · iexact H4
    unfold outR; iexact HO
  iintro ⟨H4, HO⟩
  ihave HO := (blocks_in I c a5) $$ HO
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexact HW

theorem sound_rsSend (Q : PUnit → sProp 𝕄) (p : Part) (s : Fin 7) (K : P F) (σ σ' : St) (h : stRsSend p s σ = some σ') :
    iprop(Ctx I κ ∗ Inv I c a3 a4 a5 q3 q4 σ) ⊢ iprop((Inv I c a3 a4 a5 q3 q4 σ' -∗ WP c K Q) -∗ WP c (evRsSend c p s K) Q) := by
  unfold stRsSend at h
  split at h
  case h_2 => cases h
  case h_1 f t l hp hr ho =>
  split at h
  case isFalse => cases h
  case isTrue hc =>
  obtain ⟨rfl, hf⟩ := hc
  obtain rfl := Option.some.inj h
  unfold Inv
  iintro ⟨#HC, H3, H4, HP, HR, HA, HO, HW⟩ Hk
  ihave HP := (bigSep_upd (fun p s => partR I c p s) σ.part p) $$ HP
  icases HP with ⟨Hp, HP⟩
  ihave Hp := (show partR I c p (σ.part p) ⊢ (bigSep Finset.univ fun x => chunkS I c p x (f x)) from Entails.of_eq (by rw [hp]; rfl)) $$ Hp
  ihave Hp := (bigSep_upd (fun x s => chunkS I c p x s) f (far p s)) $$ Hp
  icases Hp with ⟨Hx, Hp⟩
  ihave Hx := (show chunkS I c p (far p s) (f (far p s)) ⊢ owns (c : Thread nD τ) (chunkM p (nb c (G p s ^^^ J p s))) fullShare
    (run I p (rnd s).val c (nb c (G p s ^^^ J p s))) from Entails.of_eq (by rw [hf]; unfold chunkS; dsimp only; rw [stage_lt]; rfl)) $$ Hx
  ihave HR := (bigSep_upd (fun ps s => rsRes I c ps s) σ.rs (p, s)) $$ HR
  icases HR with ⟨Hr, HR⟩
  ihave Hr := (show rsRes I c (p, s) (σ.rs (p, s)) ⊢ rsRes I c (p, s) .ready from Entails.of_eq (by rw [hr])) $$ Hr
  rw [ho]
  unfold rsRes oweR
  icases Hr with ⟨Hd, Ht, Ht', Ha, Ha', Hc'⟩
  icases HW with ⟨%W, HW⟩
  iapply (rsSend_rule I κ c Q p s W l K) $$ [Hx Hd Ht Ht' HW]
  · isplitr; · iexact HC
    isplitl [Hx]; · iexact Hx
    isplitl [Hd]; · iexact Hd
    isplitl [Ht]; · iexact Ht
    isplitl [Ht']; · iexact Ht'
    iexact HW
  iintro ⟨Hc, HW⟩
  ispecialize HR $$ %(RS.sent) [Hc Ha Hc' Ha']
  · isplitl [Hc]; · iexact Hc
    isplitl [Ha]; · iexact Ha
    isplitl [Hc']; · iexact Hc'
    iexact Ha'
  ispecialize Hp $$ %(CS.away) []
  · unfold chunkS; iempintro
  ispecialize HP $$ %(some (Function.update f (far p s) .away)) [Hp]
  · unfold partR; iexact Hp
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexists W; iexact HW

theorem sound_rsWait (Q : PUnit → sProp 𝕄) (p : Part) (s : Fin 7) (K : P F) (σ σ' : St) (h : stRsWait p s σ = some σ') :
    iprop(Ctx I κ ∗ Inv I c a3 a4 a5 q3 q4 σ) ⊢ iprop((Inv I c a3 a4 a5 q3 q4 σ' -∗ WP c K Q) -∗ WP c (evRsWait c p s K) Q) := by
  unfold stRsWait at h
  split at h
  case h_2 => cases h
  case h_1 hr =>
  split at h
  case isFalse => cases h
  case isTrue hc =>
  obtain rfl := Option.some.inj h
  unfold Inv
  iintro ⟨#HC, H3, H4, HP, HR, HA, HO, HW⟩ Hk
  ihave HR := (bigSep_upd (fun ps s => rsRes I c ps s) σ.rs (p, s)) $$ HR
  icases HR with ⟨Hr, HR⟩
  ihave Hr := (show rsRes I c (p, s) (σ.rs (p, s)) ⊢ rsRes I c (p, s) .sent from Entails.of_eq (by rw [hr])) $$ Hr
  unfold rsRes oweR
  icases Hr with ⟨Hc, Ha, Hc', Ha'⟩
  icases HW with ⟨%W, HW⟩
  iapply (rsWait_rule I κ c Q p s W σ.owe (below_iff hc) K) $$ [Hc Ha Hc' Ha' HW]
  · isplitr; · iexact HC
    isplitl [Hc]; · iexact Hc
    isplitl [Ha]; · iexact Ha
    isplitl [Hc']; · iexact Hc'
    isplitl [Ha']; · iexact Ha'
    iexact HW
  iintro %W' ⟨Ha, Ha', Hpay, HW⟩
  ispecialize HR $$ %(RS.got) [Ha Ha' Hpay]
  · isplitl [Ha]; · iexact Ha
    isplitl [Ha']; · iexact Ha'
    iexact Hpay
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexists W'; iexact HW

theorem sound_rsAdd (Q : PUnit → sProp 𝕄) (p : Part) (s : Fin 7) (K : P F) (σ σ' : St) (h : stRsAdd p s σ = some σ') :
    Inv I c a3 a4 a5 q3 q4 σ ⊢ iprop((Inv I c a3 a4 a5 q3 q4 σ' -∗ WP c K Q) -∗ WP c (evRsAdd c p s K) Q) := by
  unfold stRsAdd at h
  split at h
  case h_2 => cases h
  case h_1 f hp hr =>
  split at h
  case isFalse => cases h
  case isTrue hc =>
  obtain ⟨hf, hJ⟩ := hc
  obtain rfl := Option.some.inj h
  unfold Inv
  iintro ⟨H3, H4, HP, HR, HA, HO, HW⟩ Hk
  ihave HP := (bigSep_upd (fun p s => partR I c p s) σ.part p) $$ HP
  icases HP with ⟨Hp, HP⟩
  ihave Hp := (show partR I c p (σ.part p) ⊢ (bigSep Finset.univ fun x => chunkS I c p x (f x)) from Entails.of_eq (by rw [hp]; rfl)) $$ Hp
  ihave Hp := (bigSep_upd (fun x s => chunkS I c p x s) f (J p s)) $$ Hp
  icases Hp with ⟨Hx, Hp⟩
  ihave Hx := (show chunkS I c p (J p s) (f (J p s)) ⊢ owns (c : Thread nD τ) (chunkM p (nb c (J p s))) fullShare
    (stage I c p (J p s) (rk s).val) from Entails.of_eq (by rw [hf]; rfl)) $$ Hx
  ihave HR := (sep_hold (fun ps => rsRes I c ps (σ.rs ps)) (p, s)) $$ HR
  icases HR with ⟨Hr, HR⟩
  ihave Hr := (show rsRes I c (p, s) (σ.rs (p, s)) ⊢ rsRes I c (p, s) .got from Entails.of_eq (by rw [hr])) $$ Hr
  unfold rsRes rsPay
  icases Hr with ⟨Ha, Ha', Hs, Hb⟩
  iapply (rsAdd_rule c Q p s _ _ K) $$ [Hx Hs]
  · isplitl [Hx]; · iexact Hx
    iexact Hs
  iintro ⟨Hx, Hs⟩
  ispecialize HR $$ [Ha Ha' Hs Hb]
  · rw [hr]
    isplitl [Ha]; · iexact Ha
    isplitl [Ha']; · iexact Ha'
    isplitl [Hs]; · iexact Hs
    iexact Hb
  ihave Hx := (Entails.of_eq (congrArg (fun v => (owns (c : Thread nD τ) (chunkM p (nb c (J p s))) fullShare v : sProp 𝕄)) (stage_succ I c p s hJ))) $$ Hx
  ispecialize Hp $$ %(CS.own (rnd s).succ) [Hx]
  · unfold chunkS; iexact Hx
  ispecialize HP $$ %(some (Function.update f (J p s) (.own (rnd s).succ))) [Hp]
  · unfold partR; iexact Hp
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexact HW

theorem sound_agSend (Q : PUnit → sProp 𝕄) (p : Part) (s : Fin 7) (K : P F) (σ σ' : St) (h : stAgSend p s σ = some σ') :
    iprop(Ctx I κ ∗ Inv I c a3 a4 a5 q3 q4 σ) ⊢ iprop((Inv I c a3 a4 a5 q3 q4 σ' -∗ WP c K Q) -∗ WP c (evAgSend c p s K) Q) := by
  unfold stAgSend at h
  split at h
  case h_2 => cases h
  case h_1 f t l hp hr hg ho =>
  split at h
  case isFalse => cases h
  case isTrue hc =>
  obtain ⟨rfl, hf⟩ := hc
  obtain rfl := Option.some.inj h
  unfold Inv
  iintro ⟨#HC, H3, H4, HP, HR, HA, HO, HW⟩ Hk
  ihave HP := (bigSep_upd (fun p s => partR I c p s) σ.part p) $$ HP
  icases HP with ⟨Hp, HP⟩
  ihave Hp := (show partR I c p (σ.part p) ⊢ (bigSep Finset.univ fun x => chunkS I c p x (f x)) from Entails.of_eq (by rw [hp]; rfl)) $$ Hp
  ihave Hp := (bigSep_upd (fun x s => chunkS I c p x s) f (J p s)) $$ Hp
  icases Hp with ⟨Hx, Hp⟩
  ihave Hx := (show chunkS I c p (J p s) (f (J p s)) ⊢ owns (c : Thread nD τ) (chunkM p (nb c (J p s))) fullShare
    (fin I p (nb c (J p s))) from Entails.of_eq (by rw [hf]; unfold chunkS; dsimp only; rw [stage_three])) $$ Hx
  ihave Hx := (owns_halves (c : Thread nD τ) (chunkM p (nb c (J p s))) fullShare (fin I p (nb c (J p s)))).1 $$ Hx
  icases Hx with ⟨Hl, Hx⟩
  ihave HR := (bigSep_upd (fun ps s => rsRes I c ps s) σ.rs (p, s)) $$ HR
  icases HR with ⟨Hr, HR⟩
  ihave Hr := (show rsRes I c (p, s) (σ.rs (p, s)) ⊢ rsRes I c (p, s) .got from Entails.of_eq (by rw [hr])) $$ Hr
  ihave HA := (bigSep_upd (fun ps s => agRes (F := F) c ps s) σ.ag (p, s)) $$ HA
  icases HA with ⟨Hg, HA⟩
  ihave Hg := (show agRes (F := F) c (p, s) (σ.ag (p, s)) ⊢ agRes (F := F) c (p, s) .ready from Entails.of_eq (by rw [hg])) $$ Hg
  rw [ho]
  unfold rsRes agRes oweR rsPay
  icases Hr with ⟨Ha1, Ha2, Hs, Hd⟩
  icases Hg with ⟨Ht, Ht', Ha, Ha', Hc'⟩
  icases HW with ⟨%W, HW⟩
  iapply (agSend_rule I κ c Q p s W l K) $$ [Hx Hd Ht Ht' HW]
  · isplitr; · iexact HC
    isplitl [Hx]; · iexact Hx
    isplitl [Hd]; · iexact Hd
    isplitl [Ht]; · iexact Ht
    isplitl [Ht']; · iexact Ht'
    iexact HW
  iintro ⟨Hc, HW⟩
  ispecialize HR $$ %(RS.used) [Ha1 Ha2 Hs]
  · isplitl [Ha1]; · iexact Ha1
    isplitl [Ha2]; · iexact Ha2
    unfold raw
    iexists _; iexact Hs
  ispecialize HA $$ %(AS.sent) [Hc Ha Hc' Ha']
  · isplitl [Hc]; · iexact Hc
    isplitl [Ha]; · iexact Ha
    isplitl [Hc']; · iexact Hc'
    iexact Ha'
  ispecialize Hp $$ %(CS.half) [Hl]
  · unfold chunkS; iexact Hl
  ispecialize HP $$ %(some (Function.update f (J p s) .half)) [Hp]
  · unfold partR; iexact Hp
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexists W; iexact HW

theorem sound_agWait (Q : PUnit → sProp 𝕄) (p : Part) (s : Fin 7) (K : P F) (σ σ' : St) (h : stAgWait p s σ = some σ') :
    iprop(Ctx I κ ∗ Inv I c a3 a4 a5 q3 q4 σ) ⊢ iprop((Inv I c a3 a4 a5 q3 q4 σ' -∗ WP c K Q) -∗ WP c (evAgWait c p s K) Q) := by
  unfold stAgWait at h
  split at h
  case h_2 => cases h
  case h_1 f hp hg =>
  split at h
  case isFalse => cases h
  case isTrue hc =>
  obtain ⟨hf, hl⟩ := hc
  obtain rfl := Option.some.inj h
  unfold Inv
  iintro ⟨#HC, H3, H4, HP, HR, HA, HO, HW⟩ Hk
  ihave HP := (bigSep_upd (fun p s => partR I c p s) σ.part p) $$ HP
  icases HP with ⟨Hp, HP⟩
  ihave Hp := (show partR I c p (σ.part p) ⊢ (bigSep Finset.univ fun x => chunkS I c p x (f x)) from Entails.of_eq (by rw [hp]; rfl)) $$ Hp
  ihave Hp := (bigSep_upd (fun x s => chunkS I c p x s) f (J p s)) $$ Hp
  icases Hp with ⟨Hx, Hp⟩
  ihave Hx := (show chunkS I c p (J p s) (f (J p s)) ⊢ owns (c : Thread nD τ) (chunkM p (nb c (J p s))) fullShare.left
    (fin I p (nb c (J p s))) from Entails.of_eq (by rw [hf]; rfl)) $$ Hx
  ihave HA := (bigSep_upd (fun ps s => agRes (F := F) c ps s) σ.ag (p, s)) $$ HA
  icases HA with ⟨Hg, HA⟩
  ihave Hg := (show agRes (F := F) c (p, s) (σ.ag (p, s)) ⊢ agRes (F := F) c (p, s) .sent from Entails.of_eq (by rw [hg])) $$ Hg
  unfold agRes oweR
  icases Hg with ⟨Hc, Ha, Hc', Ha'⟩
  icases HW with ⟨%W, HW⟩
  iapply (agWait_rule I κ c Q p s W σ.owe (below_iff hl) K) $$ [Hc Ha Hc' Ha' HW]
  · isplitr; · iexact HC
    isplitl [Hc]; · iexact Hc
    isplitl [Ha]; · iexact Ha
    isplitl [Hc']; · iexact Hc'
    isplitl [Ha']; · iexact Ha'
    iexact HW
  iintro %W' ⟨Ha, Ha', Hb, Hn, HW⟩
  unfold agBack agPay
  ihave Hx := (owns_halves (c : Thread nD τ) (chunkM p (nb c (J p s))) fullShare (fin I p (nb c (J p s)))).2 $$ [Hx Hb]
  · isplitl [Hx]; · iexact Hx
    iexact Hb
  ispecialize HA $$ %(AS.done) [Ha Ha']
  · isplitl [Ha]; · iexact Ha
    iexact Ha'
  ispecialize Hp $$ %(CS.own 3) [Hx]
  · rw [chunk_three]; iexact Hx
  ihave Hp := (bigSep_upd (fun x s => chunkS I c p x s) (Function.update f (J p s) (CS.own 3)) (far p s)) $$ Hp
  icases Hp with ⟨-, Hp⟩
  ispecialize Hp $$ %(CS.own 3) [Hn]
  · rw [chunk_three]; iexact Hn
  ispecialize HP $$ %(some (Function.update (Function.update f (J p s) (.own 3)) (far p s) (.own 3))) [Hp]
  · unfold partR; iexact Hp
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · iexact HO
  iexists W'; iexact HW

/-- Reading a finished chunk into its output block, for either kind of output step. -/
theorem sound_block (Q : PUnit → sProp 𝕄) (p : Part) (x : Fin 8) (K pr : P F) (σ σ' : St) (h : stOut p x σ = some σ')
    (rule : ∀ sh : PosShare TreeShare,
      iprop(owns (c : Thread nD τ) (a5.slice (bR p (nb c x)) (fun _ => rfl)) fullShare (fun j => sharedAt (I c) ((bR p (nb c x)).emb j))
        ∗ owns (c : Thread nD τ) (chunkM p (nb c x)) sh (fin I p (nb c x)))
      ⊢ iprop((owns (c : Thread nD τ) (a5.slice (bR p (nb c x)) (fun _ => rfl)) fullShare (fun j => outV I c ((bR p (nb c x)).emb j))
          ∗ owns (c : Thread nD τ) (chunkM p (nb c x)) sh (fin I p (nb c x)) -∗ WP c K Q)
        -∗ WP c pr Q)) :
    Inv I c a3 a4 a5 q3 q4 σ ⊢ iprop((Inv I c a3 a4 a5 q3 q4 σ' -∗ WP c K Q) -∗ WP c pr Q) := by
  unfold stOut at h
  split at h
  case h_2 => cases h
  case h_1 f g hp ho =>
  split at h
  case isFalse => cases h
  case isTrue hc =>
  obtain ⟨hf, hg⟩ := hc
  obtain rfl := Option.some.inj h
  obtain ⟨sh, hsh⟩ := readable_chunk I c p x (f x) hf
  unfold Inv
  iintro ⟨H3, H4, HP, HR, HA, HO, HW⟩ Hk
  ihave HP := (sep_hold (fun p => partR I c p (σ.part p)) p) $$ HP
  icases HP with ⟨Hp, HP⟩
  ihave Hp := (show partR I c p (σ.part p) ⊢ (bigSep Finset.univ fun x => chunkS I c p x (f x)) from Entails.of_eq (by rw [hp]; rfl)) $$ Hp
  ihave Hp := (sep_hold (fun x => chunkS I c p x (f x)) x) $$ Hp
  icases Hp with ⟨Hx, Hp⟩
  ihave Hx := (Entails.of_eq hsh) $$ Hx
  ihave HO := (show outR I c a5 σ.out ⊢ (bigSep Finset.univ fun x => blkR I c a5 x (g x)) from Entails.of_eq (by rw [ho]; rfl)) $$ HO
  ihave HO := (bigSep_upd (fun x b => blkR I c a5 x b) g (p, x)) $$ HO
  icases HO with ⟨Hb, HO⟩
  ihave Hb := (show blkR I c a5 (p, x) (g (p, x)) ⊢ owns (c : Thread nD τ) (a5.slice (bR p (nb c x)) (fun _ => rfl)) fullShare
    (fun j => sharedAt (I c) ((bR p (nb c x)).emb j)) from Entails.of_eq (by rw [hg]; rfl)) $$ Hb
  iapply (rule sh) $$ [Hb Hx]
  · isplitl [Hb]; · iexact Hb
    iexact Hx
  iintro ⟨Hb, Hx⟩
  ihave Hx := (Entails.of_eq hsh.symm) $$ Hx
  ispecialize Hp $$ [Hx]
  · iexact Hx
  ispecialize HP $$ [Hp]
  · rw [hp]; unfold partR; iexact Hp
  ispecialize HO $$ %true [Hb]
  · unfold blkR; iexact Hb
  iapply Hk $$ [H3 H4 HP HR HA HO HW]
  isplitl [H3]; · iexact H3
  isplitl [H4]; · iexact H4
  isplitl [HP]; · iexact HP
  isplitl [HR]; · iexact HR
  isplitl [HA]; · iexact HA
  isplitl [HO]; · unfold outR; iexact HO
  iexact HW

/-- The program of a list of steps on device `c`. -/
abbrev steps (l : List Ev) (K : P F) : P F :=
  runAll a3 a4 a5 c (tokens (I c).x) (coefAt c (I c) 0#32) (coefAt c (I c) 1#32) (coefAt c (I c) 2#32) (coefAt c (I c) 3#32) l K

/-- Every step is sound from a state that allows it. -/
theorem sound_step (Q : PUnit → sProp 𝕄) (e : Ev) (K : P F) (σ σ' : St) (h : step e σ = some σ') :
    iprop(Ctx I κ ∗ Inv I c a3 a4 a5 q3 q4 σ) ⊢ iprop((Inv I c a3 a4 a5 q3 q4 σ' -∗ WP c K Q)
      -∗ WP c (e.run a3 a4 a5 c (tokens (I c).x) (coefAt c (I c) 0#32) (coefAt c (I c) 1#32) (coefAt c (I c) 2#32) (coefAt c (I c) 3#32) K) Q) := by
  have drop {A B : sProp 𝕄} (h : A ⊢ B) : iprop(Ctx I κ ∗ A) ⊢ B := by
    iintro ⟨-, H⟩
    iapply h; iexact H
  match e with
  | .loc p => exact drop (sound_loc I c a3 a4 a5 q3 q4 Q p K σ σ' h)
  | .shared => exact drop (sound_shared I c a3 a4 a5 q3 q4 Q K σ σ' h)
  | .rsSend p s => exact sound_rsSend I κ c a3 a4 a5 q3 q4 Q p s K σ σ' h
  | .rsWait p s => exact sound_rsWait I κ c a3 a4 a5 q3 q4 Q p s K σ σ' h
  | .rsAdd p s => exact drop (sound_rsAdd I c a3 a4 a5 q3 q4 Q p s K σ σ' h)
  | .agSend p s => exact sound_agSend I κ c a3 a4 a5 q3 q4 Q p s K σ σ' h
  | .agWait p s => exact sound_agWait I κ c a3 a4 a5 q3 q4 Q p s K σ σ' h
  | .own p => exact drop (sound_block I c a3 a4 a5 q3 q4 Q p 0 K _ σ σ' h fun sh => own_rule I c a5 Q p sh K)
  | .out p s => exact drop (sound_block I c a3 a4 a5 q3 q4 Q p (far p s) K _ σ σ' h fun sh => out_rule I c a5 Q p s sh K)

/-- A list of steps on the state. -/
def stepAll : List Ev → St → Option St
  | [], σ => some σ
  | e :: l, σ => (step e σ).bind (stepAll l)

/-- A list of steps is sound from a state that allows all of them in turn. -/
theorem sound_steps (Q : PUnit → sProp 𝕄) (K : P F) (l : List Ev) : ∀ (σ σ' : St) (_ : stepAll l σ = some σ'),
    iprop(Ctx I κ ∗ Inv I c a3 a4 a5 q3 q4 σ) ⊢ iprop((Inv I c a3 a4 a5 q3 q4 σ' -∗ WP c K Q) -∗ WP c (steps I c a3 a4 a5 l K) Q) := by
  induction l with
  | nil =>
    intro σ σ' h
    obtain rfl := Option.some.inj h
    iintro ⟨-, H⟩ Hk
    iapply Hk; iexact H
  | cons e l ih =>
    intro σ σ' h
    obtain ⟨τ, h1, h2⟩ := Option.bind_eq_some_iff.mp h
    iintro ⟨#HC, H⟩ Hk
    iapply (sound_step I κ c a3 a4 a5 q3 q4 Q e (steps I c a3 a4 a5 l K) σ τ h1) $$ [H]
    · isplitr; · iexact HC
      iexact H
    iintro H
    iapply (ih τ σ' h2) $$ [H]
    · isplitr; · iexact HC
      iexact H
    iexact Hk

end sound

/-! ## The program's run on the state -/

/-- The transfer a step sends. -/
def Ev.snd : Ev → Option Snd
  | .rsSend p s => some (false, p, s)
  | .agSend p s => some (true, p, s)
  | _ => none

/-- All transfers, in the order sent. -/
def allSnd : List Snd := program.filterMap Ev.snd

/-- The state before the first step. -/
def st0 : St where
  part _ := none
  rs _ := .ready
  ag _ := .ready
  out := none
  owe := allSnd

/-- A state in which everything is done. -/
def finished (σ : St) : Bool :=
  (Part.all.all fun p => match σ.part p with | some f => (List.finRange 8).all fun x => decide (f x = .own 3) | none => false)
  && (Part.all.all fun p => (List.finRange 7).all fun s => decide (σ.rs (p, s) = .used) && decide (σ.ag (p, s) = .done))
  && (match σ.out with | some g => Part.all.all fun p => (List.finRange 8).all fun x => g (p, x) | none => false)
  && σ.owe.isEmpty

theorem program_done : (stepAll program st0).any finished = true := by decide +kernel

end Moe
-- ==== Proof.Moe.Body.lean ====
/- One device's whole body: the handshake hands over the landing slots, the steps run, and the end gives
   everything back with the cells closed. -/
module

public import proofs.«01_k».proof.Proof.Moe.Machine
public import Idealize.ShloMosaic.Lib.Rounds.Family

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The last state -/

/-- The steps run to a state in which every chunk is finished, every transfer is over, every block is final and
    nothing is owed. -/
theorem last_state : ∃ σ : St, stepAll program st0 = some σ ∧ (∀ p, σ.part p = some fun _ => .own 3)
    ∧ (∀ ps, σ.rs ps = .used) ∧ (∀ ps, σ.ag ps = .done) ∧ σ.out = some (fun _ => true) ∧ σ.owe = [] := by
  have h := program_done
  generalize stepAll program st0 = o at h
  obtain _ | σ := o
  · exact absurd h Bool.false_ne_true
  refine ⟨σ, rfl, ?_⟩
  have h : finished σ = true := h
  unfold finished at h
  rw [Bool.and_eq_true, Bool.and_eq_true, Bool.and_eq_true] at h
  obtain ⟨⟨⟨h1, h2⟩, h3⟩, h4⟩ := h
  refine ⟨fun p => ?_, fun ps => ?_, fun ps => ?_, ?_, List.isEmpty_iff.mp h4⟩
  · have h := List.all_eq_true.mp h1 p (Part.mem_all p)
    split at h
    case h_2 => cases h
    case h_1 f hf =>
    rw [hf]
    exact congrArg some (funext fun x => of_decide_eq_true (List.all_eq_true.mp h x (List.mem_finRange x)))
  · have h := List.all_eq_true.mp (List.all_eq_true.mp h2 ps.1 (Part.mem_all _)) ps.2 (List.mem_finRange _)
    rw [Bool.and_eq_true] at h
    exact of_decide_eq_true h.1
  · have h := List.all_eq_true.mp (List.all_eq_true.mp h2 ps.1 (Part.mem_all _)) ps.2 (List.mem_finRange _)
    rw [Bool.and_eq_true] at h
    exact of_decide_eq_true h.2
  · split at h3
    case h_2 => cases h3
    case h_1 g hg =>
    rw [hg]
    exact congrArg some (funext fun x => List.all_eq_true.mp (List.all_eq_true.mp h3 x.1 (Part.mem_all _)) x.2 (List.mem_finRange _))

/-! ## Families -/

theorem sep_fin3 (Φ : Fin 3 → sProp 𝕄) : bigSep Finset.univ Φ = iprop(Φ 0 ∗ Φ 1 ∗ Φ 2) :=
  bigSep_univ_eq_bigSepL [0, 1, 2] (by decide) (by decide) Φ
theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over the transfer cells, row by row. -/
theorem sep_tk (Φ : Fin 4 → PS → sProp 𝕄) :
    (bigSep Finset.univ fun t : TK => Φ t.1 t.2)
      = iprop((bigSep Finset.univ (Φ 0)) ∗ (bigSep Finset.univ (Φ 1)) ∗ (bigSep Finset.univ (Φ 2)) ∗ (bigSep Finset.univ (Φ 3))) := by
  rw [bigSep_univ_prod, sep_fin4]

/-- A family over a device's cells: the handshake cell and the transfer cells. -/
theorem sep_kd (Φ : Kd → sProp 𝕄) : bigSep Finset.univ Φ = iprop(Φ none ∗ bigSep Finset.univ fun t : TK => Φ (some t)) := by
  rw [bigSep_univ_equiv (Equiv.optionEquivSumPUnit.{0} TK).symm Φ, bigSep_univ_sum, bigSep_univ_of_subsingleton PUnit.unit]
  show iprop((bigSep Finset.univ fun t : TK => Φ (some t)) ∗ Φ none) = _
  exact BI.equiv_iff.mp ⟨BI.sep_comm, BI.sep_comm⟩

theorem slot_nbr (ps : PS) : ∃ i, G ps.1 ps.2 = gOf i := by
  obtain ⟨p, s⟩ := ps
  revert p s; decide
theorem gOf_inj (i j : Fin 3) (h : gOf i = gOf j) : i = j := by revert i j; decide

/-- A family over the slots, by neighbour. -/
theorem by_nbr (Φ : PS → sProp 𝕄) :
    (bigSep Finset.univ fun i : Fin 3 => bigSep Finset.univ fun ps : PS => if G ps.1 ps.2 = gOf i then Φ ps else iprop(emp))
      = bigSep Finset.univ Φ := by
  rw [bigSep_univ_comm]
  refine bigSep_congr fun ps _ => ?_
  obtain ⟨i, hi⟩ := slot_nbr ps
  rw [sep_split _ i, if_pos hi, bigSep_congr (Ψ := fun _ => iprop(emp)) (fun j hj => if_neg fun h => (Finset.ne_of_mem_erase hj) (gOf_inj _ _ (h.symm.trans hi)))]
  exact (congrArg (fun X => iprop(Φ ps ∗ X)) (bigSep_emp_const _)).trans (BI.equiv_iff.mp sep_emp)

section body

variable (I : Dev nD → Inputs F) (κ : Dev nD × Kd → ℕ) (c : Dev nD)

theorem raw_of {sh : Shape} {e : EltTy} (m : Memref sig .tc .vmem sh e) (X : sh.Idx → Elt F e) :
    (owns (c : Thread nD τ) m fullShare X : sProp 𝕄) ⊢ raw (F := F) c m := by
  unfold raw
  iintro H
  iexists X; iexact H

/-- What device `c` brings to the handshake of the neighbour at offset `gOf i`: its own landing slots for that neighbour. -/
theorem barPay_nb (i : Fin 3) :
    barPay (F := F) (nb c (gOf i)) i = bigSep Finset.univ fun ps : PS => if G ps.1 ps.2 = gOf i then raw (F := F) c (slotM ps.1 ps.2) else iprop(emp) := by
  unfold barPay
  refine bigSep_congr fun ps _ => ?_
  by_cases h : G ps.1 ps.2 = gOf i
  · rw [if_pos h, if_pos h, h, nb_self]
  · rw [if_neg h, if_neg h]

/-- A device's landing slots, dealt to its three neighbours. -/
theorem slots_out : (bigSep Finset.univ fun p => raw (F := F) c (buf p))
    ⊢ iprop(barPay (F := F) (nb c 1) 0 ∗ barPay (F := F) (nb c 3) 1 ∗ barPay (F := F) (nb c 4) 2) := by
  refine entails_trans (bigSep_mono fun p _ => buf_split c p) (Entails.of_eq ?_)
  rw [← bigSep_univ_prod (fun ps : PS => raw (F := F) c (slotM ps.1 ps.2)), ← by_nbr, sep_fin3]
  show _ = iprop(barPay (F := F) (nb c (gOf 0)) 0 ∗ barPay (F := F) (nb c (gOf 1)) 1 ∗ barPay (F := F) (nb c (gOf 2)) 2)
  rw [barPay_nb, barPay_nb, barPay_nb]

/-- The neighbours' landing slots that the handshake brings. -/
theorem slots_in : (bigSep Finset.univ (barPay (F := F) c)) ⊢ bigSep Finset.univ fun ps : PS => raw (F := F) (nb c (G ps.1 ps.2)) (slotM ps.1 ps.2) :=
  Entails.of_eq (by_nbr (fun ps : PS => raw (F := F) (nb c (G ps.1 ps.2)) (slotM ps.1 ps.2)))

/-- What a device owes at launch: all transfers and a unit to each neighbour's handshake. -/
def O₀ : CellTallies nD τ sig Unit :=
  owed c allSnd + tallyAt (bar (nb c 4)) () 1 + tallyAt (bar (nb c 3)) () 1 + tallyAt (bar (nb c 1)) () 1

/-- The ghost state of a device at launch: its positions and the duties it pays. -/
def linear : sProp 𝕄 :=
  iprop(atPos ER (bar c) 0 ∅ 0 ∗ (bigSep Finset.univ fun t : TK => own0 (F := F) c t.1 t.2)
    ∗ (bigSep Finset.univ fun i : Fin 3 => dutyTok ER (bar (nb c (gOf i))) 0 i)
    ∗ (bigSep Finset.univ fun ps => tok (F := F) c 0 ps) ∗ (bigSep Finset.univ fun ps : PS => tok (F := F) (nb c (G ps.1 ps.2)) 1 ps)
    ∗ (bigSep Finset.univ fun ps => tok (F := F) c 2 ps) ∗ (bigSep Finset.univ fun ps : PS => tok (F := F) (nb c (G ps.1 ps.2)) 3 ps))

/-- The credits of a device at launch. -/
def credits : sProp 𝕄 :=
  iprop(cred (tallyAt (bar c) () 3) ∗ (bigSep Finset.univ fun ps => cr (F := F) c 1 ps) ∗ (bigSep Finset.univ fun ps => cr (F := F) c 3 ps))

/-- The scratch buffers of a device. -/
def scr : sProp 𝕄 := iprop((bigSep Finset.univ fun p => raw (F := F) c (red p)) ∗ (bigSep Finset.univ fun p => raw (F := F) c (buf p)))

variable (a0 : Memref sig .tc .vmem S2048x512 .bf16) (a1 : Memref sig .tc .vmem S512x32 .bf16) (a2 : Memref sig .tc .vmem S2048x1 .i32)
  (a3 : Memref sig .tc .vmem S4x512x1024 .bf16) (a4 : Memref sig .tc .vmem S512x1024 .bf16) (a5 : Memref sig .tc .vmem S2048x1024 .f32)
  (q3 q4 : PosShare TreeShare)

/-- The state after the handshake. -/
theorem init_state :
    iprop(owns (c : Thread nD τ) a3 q3 (I c).ew ∗ owns (c : Thread nD τ) a4 q4 (I c).sw ∗ raw (F := F) c a5
        ∗ (bigSep Finset.univ fun p => raw (F := F) c (red p))
        ∗ (bigSep Finset.univ fun ps : PS => raw (F := F) (nb c (G ps.1 ps.2)) (slotM ps.1 ps.2))
        ∗ (bigSep Finset.univ fun t : TK => own0 (F := F) c t.1 t.2)
        ∗ (bigSep Finset.univ fun ps => tok (F := F) c 0 ps) ∗ (bigSep Finset.univ fun ps : PS => tok (F := F) (nb c (G ps.1 ps.2)) 1 ps)
        ∗ (bigSep Finset.univ fun ps => tok (F := F) c 2 ps) ∗ (bigSep Finset.univ fun ps : PS => tok (F := F) (nb c (G ps.1 ps.2)) 3 ps)
        ∗ (bigSep Finset.univ fun ps => cr (F := F) c 1 ps) ∗ (bigSep Finset.univ fun ps => cr (F := F) c 3 ps)
        ∗ oweR (F := F) c allSnd)
      ⊢ Inv I c a3 a4 a5 q3 q4 st0 := by
  iintro ⟨H3, H4, H5, Hr, Hs, Ho, Ht0, Ht1, Ht2, Ht3, Hc1, Hc3, HW⟩
  ihave Ho := (Entails.of_eq (sep_tk (fun i ps => own0 (F := F) c i ps))) $$ Ho
  icases Ho with ⟨Ho0, Ho1, Ho2, Ho3⟩
  unfold Inv st0
  dsimp only
  isplitl [H3]; · iexact H3
  isplitl [H4]; · iexact H4
  isplitl [Hr]; · unfold partR; iexact Hr
  isplitl [Hs Ht0 Ht1 Ho0 Ho1 Hc1]
  · unfold rsRes
    dsimp only
    simp only [bigSep_sep']
    isplitl [Hs]; · iexact Hs
    isplitl [Ht0]; · iexact Ht0
    isplitl [Ht1]; · iexact Ht1
    isplitl [Ho0]; · iexact Ho0
    isplitl [Ho1]; · iexact Ho1
    iexact Hc1
  isplitl [Ht2 Ht3 Ho2 Ho3 Hc3]
  · unfold agRes
    dsimp only
    simp only [bigSep_sep']
    isplitl [Ht2]; · iexact Ht2
    isplitl [Ht3]; · iexact Ht3
    isplitl [Ho2]; · iexact Ho2
    isplitl [Ho3]; · iexact Ho3
    iexact Hc3
  isplitl [H5]; · unfold outR; iexact H5
  iexact HW

/-- What the last state gives back. -/
theorem done_state (σ : St) (hp : ∀ p, σ.part p = some fun _ => .own 3) (hr : ∀ ps, σ.rs ps = .used) (hg : ∀ ps, σ.ag ps = .done)
    (ho : σ.out = some (fun _ => true)) (hw : σ.owe = []) :
    Inv I c a3 a4 a5 q3 q4 σ ⊢ iprop(owns (c : Thread nD τ) a3 q3 (I c).ew ∗ owns (c : Thread nD τ) a4 q4 (I c).sw
      ∗ owns (c : Thread nD τ) a5 fullShare (outV I c) ∗ scr (F := F) c ∗ (bigSep Finset.univ fun t : TK => own1 (F := F) c t.1 t.2)
      ∗ ∃ W, owes (c : Thread nD τ) 0 W) := by
  unfold Inv
  iintro ⟨H3, H4, HP, HR, HA, HO, HW⟩
  ihave HP := (show (bigSep Finset.univ fun p => partR I c p (σ.part p)) ⊢ (bigSep Finset.univ fun p => raw (F := F) c (red p)) from
    bigSep_mono fun p _ => by
      rw [hp]
      refine entails_trans ?_ (red_join c p)
      show (bigSep Finset.univ fun x => chunkS I c p x (.own 3)) ⊢ _
      refine bigSep_mono fun x _ => ?_
      rw [chunk_three]
      exact raw_of c _ _) $$ HP
  ihave HR := (show (bigSep Finset.univ fun ps => rsRes I c ps (σ.rs ps)) ⊢ iprop((bigSep Finset.univ fun ps => own1 (F := F) c 0 ps)
      ∗ (bigSep Finset.univ fun ps => own1 (F := F) c 1 ps) ∗ (bigSep Finset.univ fun ps : PS => raw (F := F) c (slotM ps.1 ps.2))) from
    Entails.of_eq (by
      rw [← bigSep_sep', ← bigSep_sep']
      exact bigSep_congr fun ps _ => by rw [hr]; rfl)) $$ HR
  icases HR with ⟨Ho0, Ho1, Hs⟩
  ihave HA := (show (bigSep Finset.univ fun ps => agRes (F := F) c ps (σ.ag ps)) ⊢ iprop((bigSep Finset.univ fun ps => own1 (F := F) c 2 ps)
      ∗ (bigSep Finset.univ fun ps => own1 (F := F) c 3 ps)) from
    Entails.of_eq (by
      rw [← bigSep_sep']
      exact bigSep_congr fun ps _ => by rw [hg]; rfl)) $$ HA
  icases HA with ⟨Ho2, Ho3⟩
  ihave Hs := (show (bigSep Finset.univ fun ps : PS => raw (F := F) c (slotM ps.1 ps.2)) ⊢ (bigSep Finset.univ fun p => raw (F := F) c (buf p)) from by
    rw [bigSep_univ_prod]
    exact bigSep_mono fun p _ => buf_join c p) $$ Hs
  rw [ho, hw]
  ihave HO := (blocks_out I c a5) $$ HO
  ihave HO := (show _ ⊢ (owns (c : Thread nD τ) a5 fullShare (outV I c) : sProp 𝕄) from
    owns_of_rects (c : Thread nD τ) a5 fullShare (fun x : PX => bR x.1 x.2) (fun _ _ => rfl) block_disj block_cover (outV I c)) $$ HO
  isplitl [H3]; · iexact H3
  isplitl [H4]; · iexact H4
  isplitl [HO]; · iexact HO
  isplitl [HP Hs]
  · unfold scr
    isplitl [HP]; · iexact HP
    iexact Hs
  isplitl [Ho0 Ho1 Ho2 Ho3]
  · iapply (Entails.of_eq (sep_tk (fun i ps => own1 (F := F) c i ps)).symm)
    isplitl [Ho0]; · iexact Ho0
    isplitl [Ho1]; · iexact Ho1
    isplitl [Ho2]; · iexact Ho2
    iexact Ho3
  unfold oweR owed
  iexact HW

/-- The cells of a device close. -/
theorem close_cells : iprop(Ctx I κ ∗ atPos ER (bar c) 1 ∅ 0 ∗ (bigSep Finset.univ fun t : TK => own1 (F := F) c t.1 t.2))
    ⊢ (|={Set.univ}=> bigSep Finset.univ fun k : Kd => semVal (cell c k) 0 : sProp 𝕄) := by
  have h := Rounds.cells_close (Name := ℕ) (Lvl := ℕ) (ER (F := F)) (Rd I) (Finset.univ : Finset Kd) (fun k => cell c k) (fun k => κ (c, k)) (Es := Set.univ)
    (fun _ _ => Set.mem_univ _) (fun _ _ h => h) (fun _ => 1) (fun k _ => duties_later I (cell c k))
  refine entails_trans ?_ h
  rw [bigSep_sep']
  iintro ⟨#HC, Hb, Ht⟩
  isplitr
  · iapply (show Ctx I κ ⊢ (bigSep Finset.univ fun k : Kd => cellInv ER (Rd I) (κ (c, k)) (cell c k)) from
      entails_trans (BI.bigSep_of_persistent Finset.univ (Ctx I κ)) (bigSep_mono fun k _ => Ctx_inv I κ c k))
    iexact HC
  · iapply (Entails.of_eq (sep_kd (fun k : Kd => (atPos ER (cell c k) 1 ∅ 0 : sProp 𝕄))).symm)
    isplitl [Hb]; · iexact Hb
    iapply (show (bigSep Finset.univ fun t : TK => own1 (F := F) c t.1 t.2) ⊢ (bigSep Finset.univ fun t : TK => (atPos ER (cell c (some t)) 1 ∅ 0 : sProp 𝕄)) from
      bigSep_mono fun t _ => (show own1 (F := F) c t.1 t.2 ⊢ (atPos ER (cell c (some t)) 1 ∅ 0 : sProp 𝕄) from by unfold own1; exact entails_refl _))
    iexact Ht

/-- One signal of the handshake. -/
theorem signal_rule (Q : PUnit → sProp 𝕄) (i : Fin 3) (n : Dev nD) (hn : n = nb c (gOf i)) (O₁ O : CellTallies nD τ sig Unit)
    (hO : O₁ = O + tallyAt (bar (nb c (gOf i))) () 1) (W : Waits sig Unit) (k : PUnit → P F) :
    iprop(Ctx I κ ∗ owes (c : Thread nD τ) O₁ W ∗ dutyTok ER (bar (nb c (gOf i))) 0 i ∗ barPay (F := F) (nb c (gOf i)) i)
      ⊢ iprop((owes (c : Thread nD τ) O W -∗ WP c (k ⟨⟩) Q) -∗ WP c (.op (.semSignal (Dev.tc n) barS 1) k) Q) := by
  subst hn
  iintro ⟨#HC, HO, Ht, Hp⟩ Hk
  ihave #HI := (Ctx_inv I κ (nb c (gOf i)) none) $$ HC
  ihave #HR := (Ctx_reached I κ (nb c (gOf i)) none) $$ HC
  iapply (Rounds.wp_signal 𝒱₀ ER (Rd I) (c : Thread nD τ) none (dst := (nb c (gOf i) : Thread nD τ)) (κ := κ (nb c (gOf i), none))
      (sem := barS) (r := 0) (d := i) (mem_duties_bar I (nb c (gOf i)) i) (amount_cell I (nb c (gOf i)) none 0 i) () O hO (W := W)) $$ [HO Ht Hp]
  · isplitr; · iexact HI
    isplitl [HO]; · iexact HO
    isplitl [Ht]; · iexact Ht
    isplitl [Hp]
    · iapply (show barPay (F := F) (nb c (gOf i)) i ⊢ (Rd I).payload ((nb c (gOf i) : Thread nD τ), .reg barS) 0 i from Entails.of_eq (payload_cell I (nb c (gOf i)) none 0 i).symm)
      iexact Hp
    iexact HR
  iexact Hk

theorem handshake_below : ∀ t ∈ allSnd, level none < level (sndK t) := by decide +kernel

/-- The wait of the handshake. -/
theorem handshake_rule (Q : PUnit → sProp 𝕄) (W : Waits sig Unit) (k : PUnit → P F) :
    iprop(Ctx I κ ∗ cred (tallyAt (bar c) () 3) ∗ owes (c : Thread nD τ) (owed c allSnd) W ∗ atPos ER (bar c) 0 ∅ 0)
      ⊢ iprop(((atPos ER (bar c) 1 ∅ 0 ∗ (bigSep Finset.univ (barPay (F := F) c)) ∗ oweR (F := F) c allSnd) -∗ WP c (k ⟨⟩) Q)
        -∗ WP c (.op (.semWait barS 3) k) Q) := by
  iintro ⟨#HC, Hc, HO, Ha⟩ Hk
  ihave #HI := (Ctx_inv I κ c none) $$ HC
  ihave #Hlev := (Ctx_lev I κ) $$ HC
  iapply (Rounds.wp_wait_rest_token 𝒱₀ ER (Rd I) (c : Thread nD τ) none (κ := κ (c, none)) (wpE_semWait_eq 𝒱₀ (c : Thread nD τ) none Set.univ) (Set.mem_univ _) ()
    (O := owed c allSnd) (W := W) (R := 0) (m := 0) (T := ∅) (by rw [Nat.zero_add]; exact (expect_bar I c).symm)) $$ [Hc HO Ha]
  · isplitr; · iexact HI
    isplitl [Hc]; · iexact Hc
    isplitl [HO]; · iexact HO
    isplitr; · iapply (mayWait_cell c none allSnd handshake_below); iexact Hlev
    iexact Ha
  iintro ⟨HO, Ha, -, Hp⟩
  ihave Hp := (show bigSep ((Rd I).duties ((c : Thread nD τ), .reg barS) 0 \ ∅) (fun d => (Rd I).payload ((c : Thread nD τ), .reg barS) 0 d)
    ⊢ bigSep Finset.univ (barPay (F := F) c) from Entails.of_eq (rest_bar I c)) $$ Hp
  iapply Hk $$ [Ha Hp HO]
  isplitl [Ha]; · iexact Ha
  isplitl [Hp]; · iexact Hp
  unfold oweR
  iexists _; iexact HO

/-- A device's whole body. -/
theorem body_rule (Q : PUnit → sProp 𝕄) (q0 q1 q2 : PosShare TreeShare) (W : Waits sig Unit) :
    iprop(Ctx I κ ∗ linear (F := F) c ∗ credits (F := F) c ∗ scr (F := F) c
        ∗ owns (c : Thread nD τ) a0 q0 (I c).x ∗ owns (c : Thread nD τ) a1 q1 (I c).rw ∗ owns (c : Thread nD τ) a2 q2 (I c).idx
        ∗ owns (c : Thread nD τ) a3 q3 (I c).ew ∗ owns (c : Thread nD τ) a4 q4 (I c).sw ∗ raw (F := F) c a5
        ∗ owes (c : Thread nD τ) (O₀ c) W)
      ⊢ iprop(((owns (c : Thread nD τ) a0 q0 (I c).x ∗ owns (c : Thread nD τ) a1 q1 (I c).rw ∗ owns (c : Thread nD τ) a2 q2 (I c).idx
            ∗ owns (c : Thread nD τ) a3 q3 (I c).ew ∗ owns (c : Thread nD τ) a4 q4 (I c).sw
            ∗ owns (c : Thread nD τ) a5 fullShare (outV I c) ∗ scr (F := F) c ∗ (∃ W, owes (c : Thread nD τ) 0 W)
            ∗ bigSep Finset.univ fun k : Kd => semVal (cell c k) 0) -∗ Q ⟨⟩)
        -∗ WP c (body a0 a1 a2 a3 a4 a5) Q) := by
  obtain ⟨σ, hσ, h1, h2, h3, h4, h5⟩ := last_state
  unfold linear credits scr body O₀
  generalize program = l at hσ ⊢
  iintro ⟨#HC, ⟨Hb, Ho, Hd, Ht0, Ht1, Ht2, Ht3⟩, ⟨Hcb, Hc1, Hc3⟩, ⟨Hr, Hs⟩, H0, H1, H2, H3, H4, H5, HO⟩ Hk
  ihave Hd := (Entails.of_eq (sep_fin3 (fun i : Fin 3 => (dutyTok ER (bar (nb c (gOf i))) 0 i : sProp 𝕄)))) $$ Hd
  icases Hd with ⟨Hd0, Hd1, Hd2⟩
  ihave Hs := (slots_out c) $$ Hs
  icases Hs with ⟨Hs0, Hs1, Hs2⟩
  unfold WP
  rw [wp_deviceId]
  iapply (ld_all c Q a0 _ two_zero _ q0 (I c).x _) $$ H0
  iintro H0
  iapply (ld_all c Q a1 _ two_zero _ q1 (I c).rw _) $$ H1
  iintro H1
  iapply (ld_all c Q a2 _ two_zero _ q2 (I c).idx _) $$ H2
  iintro H2
  iapply (signal_rule I κ c Q 0 _ (Fin.ext (devNat_eq c 1)) _ (owed c allSnd + tallyAt (bar (nb c 4)) () 1 + tallyAt (bar (nb c 3)) () 1) rfl W _) $$ [HO Hd0 Hs0]
  · isplitr; · iexact HC
    isplitl [HO]; · iexact HO
    isplitl [Hd0]; · iexact Hd0
    iexact Hs0
  iintro HO
  iapply (signal_rule I κ c Q 1 _ (Fin.ext (devNat_eq c 3)) _ (owed c allSnd + tallyAt (bar (nb c 4)) () 1) rfl W _) $$ [HO Hd1 Hs1]
  · isplitr; · iexact HC
    isplitl [HO]; · iexact HO
    isplitl [Hd1]; · iexact Hd1
    iexact Hs1
  iintro HO
  iapply (signal_rule I κ c Q 2 _ (Fin.ext (devNat_eq c 4)) _ (owed c allSnd) rfl W _) $$ [HO Hd2 Hs2]
  · isplitr; · iexact HC
    isplitl [HO]; · iexact HO
    isplitl [Hd2]; · iexact Hd2
    iexact Hs2
  iintro HO
  iapply (handshake_rule I κ c Q W _) $$ [Hcb HO Hb]
  · isplitr; · iexact HC
    isplitl [Hcb]; · iexact Hcb
    isplitl [HO]; · iexact HO
    iexact Hb
  iintro ⟨Hb, Hs, HO⟩
  iapply (ld_all c Q a0 _ two_zero _ q0 (I c).x _) $$ H0
  iintro H0
  iapply (sound_steps I κ c a3 a4 a5 q3 q4 Q (.ret ⟨⟩) l st0 σ hσ) $$ [H3 H4 H5 Hr Hs Ho Ht0 Ht1 Ht2 Ht3 Hc1 Hc3 HO]
  · isplitr; · iexact HC
    iapply (init_state I c a3 a4 a5 q3 q4)
    isplitl [H3]; · iexact H3
    isplitl [H4]; · iexact H4
    isplitl [H5]; · iexact H5
    isplitl [Hr]; · iexact Hr
    isplitl [Hs]; · iapply (slots_in c); iexact Hs
    isplitl [Ho]; · iexact Ho
    isplitl [Ht0]; · iexact Ht0
    isplitl [Ht1]; · iexact Ht1
    isplitl [Ht2]; · iexact Ht2
    isplitl [Ht3]; · iexact Ht3
    isplitl [Hc1]; · iexact Hc1
    isplitl [Hc3]; · iexact Hc3
    iexact HO
  iintro H
  ihave H := (done_state I c a3 a4 a5 q3 q4 σ h1 h2 h3 h4 h5) $$ H
  icases H with ⟨H3, H4, H5, Hs, Ho, HO⟩
  unfold WP
  rw [wp_ret]
  imod (close_cells I κ c) $$ [Hb Ho] with Hz
  · isplitr; · iexact HC
    isplitl [Hb]; · iexact Hb
    iexact Ho
  imodintro
  iapply Hk $$ [H0 H1 H2 H3 H4 H5 Hs HO Hz]
  isplitl [H0]; · iexact H0
  isplitl [H1]; · iexact H1
  isplitl [H2]; · iexact H2
  isplitl [H3]; · iexact H3
  isplitl [H4]; · iexact H4
  isplitl [H5]; · iexact H5
  isplitl [Hs]; · unfold scr; iexact Hs
  isplitl [HO]; · iexact HO
  iexact Hz

end body

end Moe
-- ==== Proof.Moe.Ghost.lean ====
/- The launch's ghost state: the cells' invariants, the positions, the duties dealt to who pays them, and the
   credits. -/
module

public import proofs.«01_k».proof.Proof.Moe.Body
public import proofs.«01_k».proof.Proof.Gen.KernelIdeal.Launch

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Cells and duties -/

/-- The exchange's cells. -/
def cellEmb : Dev nD × Kd ↪ GSem nD τ sig :=
  ⟨fun ck => cell ck.1 ck.2, fun a b h => Prod.ext (cell_inj h).1 (cell_inj h).2⟩

/-- A device's duties: three of its handshake cell, one of each transfer cell. -/
abbrev Dk := Fin 3 ⊕ TK

/-- A duty by name. -/
def tokOf : Dev nD × Dk → GSem nD τ sig × ℕ × Fin 3
  | (c, .inl i) => (bar c, 0, i)
  | (c, .inr t) => (cell c (some t), 0, 0)

theorem tokOf_inj : Function.Injective tokOf := by
  rintro ⟨c, i | t⟩ ⟨c', i' | t'⟩ h
  · have h1 := cell_inj (congrArg Prod.fst h)
    have h2 : i = i' := congrArg (fun x : GSem nD τ sig × ℕ × Fin 3 => x.2.2) h
    rw [h1.1, h2]
  · have h1 := (cell_inj (congrArg Prod.fst h)).2
    cases h1
  · have h1 := (cell_inj (congrArg Prod.fst h)).2
    cases h1
  · have h1 := cell_inj (congrArg Prod.fst h)
    have h2 : t = t' := Option.some.inj h1.2
    rw [h1.1, h2]

/-- All cells. -/
def allCells : Finset (GSem nD τ sig) := Finset.univ.map cellEmb
/-- All duties. -/
def allToks : Finset (GSem nD τ sig × ℕ × Fin 3) := Finset.univ.map ⟨tokOf, tokOf_inj⟩

/-- The launch's ghost element. -/
def u₀ : UU :=
  (initOf (Pipeline.cells cfgs cellOf_inj) (Pipeline.launchToks cfgs cellOf_inj), initOf allCells allToks)

section

variable (I : Dev nD → Inputs F)

/-- The duties of device `c`'s own cells. -/
def toks (c : Dev nD) : sProp 𝕄 :=
  iprop((bigSep Finset.univ fun i : Fin 3 => dutyTok ER (bar c) 0 i) ∗ (bigSep Finset.univ fun t : TK => tok (F := F) c t.1 t.2))

/-- What the launch element deals device `c`. -/
def GG (c : Dev nD) : sProp 𝕄 :=
  iprop((bigSep Finset.univ fun k : Kd => roundState ER (Rd I) (cell c k) 0)
    ∗ (bigSep Finset.univ fun k : Kd => iprop(atPos ER (cell c k) 0 ∅ 0 ∗ reached ER (cell c k) 0)) ∗ toks (F := F) c)

theorem fund_cells : BI.own (ER (initOf allCells allToks)) ⊢ (|==> bigSep Finset.univ (GG I) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold GG; simp only [bigSep_sep']
  isplitl [Hst']; · iexact Hst'
  isplitl [Hat' Hr']
  · isplitl [Hat'] <;> iassumption
  iexact Htok'

/-! ## Semaphores -/

/-- The kernel's own semaphores. -/
abbrev osem : TK → SemLoc sig := fun t => .dma (tsem t)

theorem unscopedSems0_eq (c : Dev nD) : (unscopedSems0 c : sProp 𝕄) = semVal (bar c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : Kd => semVal (cell c k) 0 : sProp 𝕄) := by
  rw [sep_kd, unscopedSems0_eq]
  unfold Pipeline.ownSems0
  exact BI.equiv_iff.mp ⟨BI.sep_comm, BI.sep_comm⟩

theorem core_alloc (c : Dev nD) :
    iprop(Pipeline.ownSems0 (Ix := Unit) (Name := ℕ) (U := UU) (Lvl := ℕ) (Val := Elt F) (τ := τ) osem c ∗ unscopedSems0 c ∗ GG I c)
      ⊢ |={Set.univ}=> iprop((bigSep Finset.univ fun k : Kd => iprop(∃ κ : ℕ, cellInv ER (Rd I) κ (cell c k)))
          ∗ (bigSep Finset.univ fun k : Kd => iprop(atPos ER (cell c k) 0 ∅ 0 ∗ reached ER (cell c k) 0)) ∗ toks (F := F) c) := by
  unfold GG
  iintro ⟨Hos, Hus, Hst, Hat, Htok⟩
  ihave Hv := (Entails.of_eq (sems0_eq (F := F) c)) $$ [Hos Hus]
  · isplitl [Hos] <;> iassumption
  imod (show iprop((bigSep Finset.univ fun k : Kd => semVal (cell c k) 0) ∗ bigSep Finset.univ fun k : Kd => roundState ER (Rd I) (cell c k) 0)
      ⊢ (|={Set.univ}=> bigSep Finset.univ fun k : Kd => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties -/

/-- The neighbours at an offset, as a permutation of the devices. -/
def devEquiv (g : Fin 8) : Dev nD ≃ Dev nD := ⟨fun d => nb d g, fun d => nb d g, fun d => nb_self d g, fun d => nb_self d g⟩

/-- A family over devices and another index, each entry moved to the neighbour at its offset. -/
theorem around {A : Type} [Fintype A] (g : A → Fin 8) (Φ : Dev nD → A → sProp 𝕄) :
    (bigSep Finset.univ fun c => bigSep Finset.univ (Φ c)) = bigSep Finset.univ fun c => bigSep Finset.univ fun a => Φ (nb c (g a)) a := by
  rw [bigSep_univ_comm (fun c a => Φ c a), bigSep_univ_comm (fun c a => Φ (nb c (g a)) a)]
  exact bigSep_congr fun a _ => bigSep_univ_equiv (devEquiv (g a)) (fun c => Φ c a)

/-- The duties device `c` pays. -/
def pays (c : Dev nD) : sProp 𝕄 :=
  iprop((bigSep Finset.univ fun i : Fin 3 => dutyTok ER (bar (nb c (gOf i))) 0 i)
    ∗ (bigSep Finset.univ fun ps => tok (F := F) c 0 ps) ∗ (bigSep Finset.univ fun ps : PS => tok (F := F) (nb c (G ps.1 ps.2)) 1 ps)
    ∗ (bigSep Finset.univ fun ps => tok (F := F) c 2 ps) ∗ (bigSep Finset.univ fun ps : PS => tok (F := F) (nb c (G ps.1 ps.2)) 3 ps))

theorem toks_around : (bigSep Finset.univ fun c : Dev nD => (toks c : sProp 𝕄)) = bigSep Finset.univ fun c : Dev nD => pays c := by
  have h (c : Dev nD) : (toks c : sProp 𝕄) = iprop((bigSep Finset.univ fun i : Fin 3 => dutyTok ER (bar c) 0 i)
      ∗ (bigSep Finset.univ fun ps => tok (F := F) c 0 ps) ∗ (bigSep Finset.univ fun ps => tok (F := F) c 1 ps)
      ∗ (bigSep Finset.univ fun ps => tok (F := F) c 2 ps) ∗ (bigSep Finset.univ fun ps => tok (F := F) c 3 ps)) := by
    unfold toks; rw [sep_tk (fun i ps => tok (F := F) c i ps)]
  rw [bigSep_congr fun c _ => h c]
  unfold pays
  simp only [bigSep_sep']
  rw [around gOf (fun c i => (dutyTok ER (bar c) 0 i : sProp 𝕄)),
    around (fun ps : PS => G ps.1 ps.2) (fun c ps => tok (F := F) c 1 ps),
    around (fun ps : PS => G ps.1 ps.2) (fun c ps => tok (F := F) c 3 ps)]

/-- The records every device shares. -/
def records (κ : Dev nD × Kd → ℕ) : sProp 𝕄 :=
  iprop((bigSep Finset.univ fun ck : Dev nD × Kd => cellInv ER (Rd I) (κ ck) (cell ck.1 ck.2))
    ∗ bigSep Finset.univ fun ck : Dev nD × Kd => reached ER (cell ck.1 ck.2) 0)

instance records_persistent (κ : Dev nD × Kd → ℕ) : BI.Persistent (records I κ) := by unfold records; infer_instance

/-- What the global step makes of the launch element at device `c`. -/
def GG' (c : Dev nD) : sProp 𝕄 := iprop(∃ κ, records I κ ∗ linear (F := F) c)

theorem sep_three (A B C : sProp 𝕄) : iprop(A ∗ B ∗ C) = iprop((A ∗ B) ∗ C) := by
  have h1 : iprop(A ∗ B ∗ C) ⊢ iprop((A ∗ B) ∗ C) := by
    iintro ⟨H1, H2, H3⟩
    isplitl [H1 H2]
    · isplitl [H1] <;> iassumption
    iexact H3
  have h2 : iprop((A ∗ B) ∗ C) ⊢ iprop(A ∗ B ∗ C) := by
    iintro ⟨⟨H1, H2⟩, H3⟩
    isplitl [H1]; · iexact H1
    isplitl [H2] <;> iassumption
  exact BI.equiv_iff.mp ⟨h1, h2⟩

theorem linear_eq (c : Dev nD) : linear (F := F) c = iprop((bigSep Finset.univ fun k : Kd => atPos ER (cell c k) 0 ∅ 0) ∗ pays (F := F) c) := by
  rw [sep_kd]
  unfold linear pays own0
  exact sep_three _ _ _

theorem sep_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Kd => iprop(∃ κ : ℕ, cellInv ER (Rd I) κ (cell c k)))
          ∗ (bigSep Finset.univ fun k : Kd => iprop(atPos ER (cell c k) 0 ∅ 0 ∗ reached ER (cell c k) 0)) ∗ toks (F := F) c) : sProp 𝕄)
      ⊢ bigSep Finset.univ (GG' I) := by
  rw [bigSep_sep', bigSep_sep', ← bigSep_univ_prod (fun ck : Dev nD × Kd => iprop(∃ κ : ℕ, cellInv ER (Rd I) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (Rd I) κ (cell ck.1 ck.2) : sProp 𝕄))) $$ HI
  icases HK with ⟨%κ, #HI⟩
  ihave Htk := (Entails.of_eq (toks_around (F := F))) $$ Htok
  iapply (sep_persistent (R := records I κ) (Φ := fun c => linear (F := F) c) fun c _ => (show iprop(records I κ ∗ linear (F := F) c) ⊢ GG' I c from by
    unfold GG'
    iintro H
    iexists κ; iexact H))
  isplitr
  · unfold records; isplitl; · iexact HI
    iexact HR
  · simp only [linear_eq]
    rw [bigSep_sep']
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ GG I c) : sProp 𝕄)
    ⊢ |={Set.univ}=> bigSep Finset.univ (GG' I) :=
  ((bigSep_mono fun c _ => core_alloc I c).trans (bigSep_fupd _ _)).trans (BI.fupd_mono (regroup I))

end

/-! ## Credits -/

/-- What all devices together owe one cell by one kind of debt. -/
theorem sum_tally (c : Dev nD) (g : Fin 8) (k k' : Kd) (n : Nat) :
    (∑ d : Dev nD, (tallyAt (cell (nb d g) k') () n : CellTallies nD τ sig Unit) (cell c k) ()) = if k = k' then n else 0 := by
  by_cases h : k = k'
  · subst h
    rw [if_pos rfl, Finset.sum_eq_single (nb c g)]
    · rw [tallyAt_apply, nb_self, if_pos ⟨rfl, rfl⟩]
    · intro d _ hd
      rw [tallyAt_apply, if_neg]
      rintro ⟨e, -⟩
      exact hd (by rw [(cell_inj e).1, nb_self])
    · intro h; exact absurd (Finset.mem_univ _) h
  · rw [if_neg h]
    refine Finset.sum_eq_zero fun d _ => ?_
    rw [tallyAt_apply, if_neg]
    rintro ⟨e, -⟩
    exact h (cell_inj e).2

theorem sum_owed (c : Dev nD) (k : Kd) (l : List Snd) :
    (∑ d : Dev nD, owed d l (cell c k) ()) = (l.map fun t => if k = sndK t then N t.2.1 else 0).sum := by
  induction l with
  | nil => exact Finset.sum_eq_zero fun d _ => rfl
  | cons t l ih =>
    unfold owed
    simp only [Pi.add_apply, Finsupp.add_apply]
    rw [Finset.sum_add_distrib, ih, sum_tally, List.map_cons, List.sum_cons, Nat.add_comm]

theorem sndK_inj (t t' : Snd) (h : sndK t = sndK t') : t = t' := by
  obtain ⟨b, ps⟩ := t
  obtain ⟨b', ps'⟩ := t'
  have e := Option.some.inj h
  have h2 : ps = ps' := congrArg Prod.snd e
  have h1 : (if b then (3 : Fin 4) else 1) = if b' then 3 else 1 := congrArg Prod.fst e
  clear h e
  subst h2
  have : b = b' := by revert b b'; decide
  rw [this]

theorem sum_one (t₀ : Snd) (l : List Snd) (hn : l.Nodup) (hm : t₀ ∈ l) :
    (l.map fun t => if sndK t₀ = sndK t then N t.2.1 else 0).sum = N t₀.2.1 := by
  have none (l : List Snd) (h : t₀ ∉ l) : (l.map fun t => if sndK t₀ = sndK t then N t.2.1 else 0).sum = 0 := by
    induction l with
    | nil => rfl
    | cons t l ih =>
      rw [List.map_cons, List.sum_cons, if_neg fun e => h (by rw [sndK_inj _ _ e]; exact List.mem_cons_self), ih fun e => h (List.mem_cons_of_mem _ e)]
  induction l with
  | nil => cases hm
  | cons t l ih =>
    rw [List.map_cons, List.sum_cons]
    obtain ⟨h1, h2⟩ := List.nodup_cons.mp hn
    by_cases e : t₀ = t
    · subst e
      rw [if_pos rfl, none l h1, Nat.add_zero]
    · rw [if_neg fun e' => e (sndK_inj _ _ e'), Nat.zero_add]
      exact ih h2 ((List.mem_cons.mp hm).resolve_left e)

theorem allSnd_nodup : allSnd.Nodup := by decide +kernel
theorem allSnd_mem (t : Snd) : t ∈ allSnd := by
  obtain ⟨b, p, s⟩ := t
  revert b p s; decide +kernel

theorem sum_start (c : Dev nD) (k : Kd) :
    (∑ d : Dev nD, O₀ d (cell c k) ()) = (allSnd.map fun t => if k = sndK t then N t.2.1 else 0).sum
      + (if k = none then 1 else 0) + (if k = none then 1 else 0) + (if k = none then 1 else 0) := by
  unfold O₀
  simp only [Pi.add_apply, Finsupp.add_apply]
  rw [Finset.sum_add_distrib, Finset.sum_add_distrib, Finset.sum_add_distrib, sum_owed, sum_tally, sum_tally, sum_tally]

theorem sum_bar (c : Dev nD) : (∑ d : Dev nD, O₀ d (bar c) ()) = 3 := by
  rw [sum_start, if_pos rfl]
  have h (l : List Snd) : (l.map fun t => if (none : Kd) = sndK t then N t.2.1 else 0).sum = 0 := by
    induction l with
    | nil => rfl
    | cons t l ih => rw [List.map_cons, List.sum_cons, ih, if_neg fun e => by cases e]
  rw [h]

theorem sum_tc (c : Dev nD) (t : Snd) : (∑ d : Dev nD, O₀ d (cell c (sndK t)) ()) = N t.2.1 := by
  rw [sum_start, if_neg (fun e => by cases e), sum_one t allSnd allSnd_nodup (allSnd_mem t)]; rfl

theorem launch_cell (c : Dev nD) (k : Kd) (n : Nat) (h : (∑ d : Dev nD, O₀ d (cell c k) ()) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ credits (F := F) c := by
  unfold Pipeline.launchCred credits cr
  refine entails_trans (bigSep_subset (Finset.subset_univ (Finset.univ.map ⟨csem, csem_inj⟩))) ?_
  rw [bigSep_map, sep_kd]
  have h (i : Fin 4) (b : Bool) (hi : i = if b then 3 else 1) (ps : PS) :
      (cred (tallyOn (cell c (some (i, ps))) (launchCredit (Pipeline.owing O₀) 0 (cell c (some (i, ps))))) : sProp 𝕄) = cred (tallyAt (tc c i ps) () (N ps.1)) := by
    subst hi
    rw [launch_cell c (some (if b then 3 else 1, ps)) (N ps.1) (sum_tc c (b, ps))]
  iintro ⟨Hb, Ht⟩
  ihave Ht := (show (bigSep Finset.univ fun t : TK => (cred (tallyOn (cell c (some t)) (launchCredit (Pipeline.owing O₀) 0 (cell c (some t)))) : sProp 𝕄)) ⊢ _ from
    Entails.of_eq (sep_tk (fun i ps => (cred (tallyOn (cell c (some (i, ps))) (launchCredit (Pipeline.owing O₀) 0 (cell c (some (i, ps))))) : sProp 𝕄)))) $$ Ht
  icases Ht with ⟨-, H1, -, H3⟩
  isplitl [Hb]
  · iapply (show (cred (tallyOn (bar c) (launchCredit (Pipeline.owing O₀) 0 (bar c))) : sProp 𝕄) ⊢ cred (tallyAt (bar c) () 3) from
      Entails.of_eq (by rw [launch_cell c none 3 (sum_bar c)]))
    iexact Hb
  isplitl [H1]
  · iapply (Entails.of_eq (bigSep_congr fun ps _ => h 1 false rfl ps))
    iexact H1
  · iapply (Entails.of_eq (bigSep_congr fun ps _ => h 3 true rfl ps))
    iexact H3

end Moe
-- ==== Proof.Moe.Eq.lean ====
/- The body the kernel prints is the structured program. -/
module

public import proofs.«01_k».proof.Proof.Moe.Struct
public import Idealize.ShloMosaic.Lib.Pipeline.Regions

@[expose] public section

noncomputable section

namespace Moe

open Idealize.ShloMosaic Idealize.SL.Sem
open Cert.KernelIdeal Cert.KernelIdeal.Gen

variable {F : FTy → Type} [FloatOps F]

set_option maxRecDepth 100000 in
/-- The body the program prints, at the one point of its grid, is the structured program over the staging buffers. -/
theorem body_eq (t : Fin cfg0.N) :
    (bodyAt0 t : P F) = body (st0_0 t) (st0_1 t) (st0_2 t) (st0_3 t) (st0_4 t) (st0_5 t) := by
  chain_rfl

end Moe
-- ==== Proof.Moe.Launch.lean ====
/- The launch: from any memory with zero counters, what every run of the program leaves. -/
module

public import proofs.«01_k».proof.Proof.Moe.Ghost
public import proofs.«01_k».proof.Proof.Moe.Eq
public import proofs.«01_k».proof.Proof.Gen.KernelIdeal.Points
public import Idealize.ShloMosaic.Lib.Pipeline.Value
public import Idealize.ShloMosaic.Lib.Pipeline.CollectiveSegs

@[expose] public section

noncomputable section

namespace Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (l : Loc nD τ sig) → Buf (Elt F) l) (ρ : Dev nD → PrngReg)

/-- The initial state. -/
def s₀ : MemSt nD τ sig (Elt F) := ⟨m, fun _ => 0, ρ⟩

/-- Device `c`'s arguments. -/
def inp (c : Dev nD) : Inputs F where
  x := m ((c : Thread nD τ).loc main_arg0)
  rw := m ((c : Thread nD τ).loc main_arg1)
  idx := m ((c : Thread nD τ).loc main_arg2)
  ew := m ((c : Thread nD τ).loc main_arg3)
  sw := m ((c : Thread nD τ).loc main_arg4)

/-! ## Levels of the staging semaphores -/

theorem lv_stage (c : Dev nD) (q : DmaSem sig) (hq : q.val < 6) : lv ((c : Thread nD τ), .dma q) () = 0 := by
  show ((decode (SemLoc.dma q)).map level).getD 0 = 0
  have h : decode (SemLoc.dma q) = none := by
    unfold decode
    rw [dif_neg]
    rintro ⟨k, hk⟩
    cases k with
    | none => cases hk
    | some t =>
      obtain ⟨i, p, s⟩ := t
      have hk : SemLoc.dma (tsem (i, p, s)) = .dma q := hk
      have := congrArg Fin.val (SemLoc.dma.inj hk)
      rw [tsem_val] at this
      omega
  rw [h]; rfl

theorem start_pos {c : Dev nD} {g : GSem nD τ sig} {u : Unit} (h : 0 < O₀ c g u) : ∃ (d : Dev nD) (k : Kd), g = cell d k ∧ 0 < level k := by
  by_contra hn
  have hb (d : Dev nD) : (tallyAt (bar d) () 1 : CellTallies nD τ sig Unit) g u = 0 := by
    rw [tallyAt_apply, if_neg]
    rintro ⟨e, -⟩
    exact hn ⟨d, none, e, by decide⟩
  have ho : owed c allSnd g u = 0 := by
    refine Nat.eq_zero_of_not_pos fun hp => ?_
    obtain ⟨t, -, e⟩ := owed_pos hp
    refine hn ⟨_, _, e, ?_⟩
    obtain ⟨b, p, s⟩ := t
    clear e hp hb hn h
    revert b p s; decide +kernel
  unfold O₀ at h
  simp only [Pi.add_apply, Finsupp.add_apply] at h
  rw [ho, hb, hb, hb] at h
  exact Nat.lt_irrefl 0 h

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨d, k, rfl, -⟩ := start_pos hg; rw [L_tc]; exact Finset.mem_singleton_self _)
      (fun p hp => by rw [Finset.mem_singleton.mp hp]; exact le_of_eq (lv_stage c q hq))
      (fun g u hg => by obtain ⟨d, k, rfl, hk⟩ := start_pos hg; rw [lv_cell]; exact hk)
  · rw [MayWait_zero]; iintro -; iempintro

/-! ## The pipeline's proof data -/

/-- Before the call. -/
def Φ₀ (c : Dev nD) : sProp 𝕄 :=
  iprop((∃ κ, Ctx (inp m) κ ∗ linear (F := F) c) ∗ credits (F := F) c ∗ scr (F := F) c)
/-- After the call. -/
def Φ₁ (c : Dev nD) : sProp 𝕄 := iprop(scr (F := F) c ∗ bigSep Finset.univ fun k : Kd => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).rw
    | ⟨2, _⟩ => (inp m c).idx
    | ⟨3, _⟩ => (inp m c).ew
    | ⟨4, _⟩ => (inp m c).sw
    | ⟨5, _⟩ => outV (inp m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem share_eq (c : Dev nD) (w : Fin cfg0.W) : (dats m ρ 0 c).share w = fullShare := by unfold Dat.share; split <;> rfl

/-! Each input window is staged with its argument whole. -/

theorem sep_six (A B C D E G H : sProp 𝕄) : iprop((A ∗ B ∗ C ∗ D ∗ E ∗ G) ∗ H) = iprop(A ∗ B ∗ C ∗ D ∗ E ∗ G ∗ H) := by
  rw [← sep_three, ← sep_three, ← sep_three, ← sep_three, ← sep_three]

theorem before_0 (c : Dev nD) (d) : (dats m ρ 0 c).before (0 : Fin 6) t0_0 d = (inp m c).x := by
  unfold Dat.before; rw [if_pos (fetch0_0 t0_0)]
  funext i
  show m ((c : Thread nD τ).loc main_arg0) _ = m ((c : Thread nD τ).loc main_arg0) i
  refine congrArg (m ((c : Thread nD τ).loc main_arg0)) (funext fun a => Fin.ext ?_)
  show 0 * S2048x512.size a + 1 * (i a).val = (i a).val
  omega

theorem before_1 (c : Dev nD) (d) : (dats m ρ 0 c).before (1 : Fin 6) t0_0 d = (inp m c).rw := by
  unfold Dat.before; rw [if_pos (fetch0_1 t0_0)]
  funext i
  show m ((c : Thread nD τ).loc main_arg1) _ = m ((c : Thread nD τ).loc main_arg1) i
  refine congrArg (m ((c : Thread nD τ).loc main_arg1)) (funext fun a => Fin.ext ?_)
  show 0 * S512x32.size a + 1 * (i a).val = (i a).val
  omega

theorem before_2 (c : Dev nD) (d) : (dats m ρ 0 c).before (2 : Fin 6) t0_0 d = (inp m c).idx := by
  unfold Dat.before; rw [if_pos (fetch0_2 t0_0)]
  funext i
  show m ((c : Thread nD τ).loc main_arg2) _ = m ((c : Thread nD τ).loc main_arg2) i
  refine congrArg (m ((c : Thread nD τ).loc main_arg2)) (funext fun a => Fin.ext ?_)
  show 0 * S2048x1.size a + 1 * (i a).val = (i a).val
  omega

theorem before_3 (c : Dev nD) (d) : (dats m ρ 0 c).before (3 : Fin 6) t0_0 d = (inp m c).ew := by
  unfold Dat.before; rw [if_pos (fetch0_3 t0_0)]
  funext i
  show m ((c : Thread nD τ).loc main_arg3) _ = m ((c : Thread nD τ).loc main_arg3) i
  refine congrArg (m ((c : Thread nD τ).loc main_arg3)) (funext fun a => Fin.ext ?_)
  show 0 * S4x512x1024.size a + 1 * (i a).val = (i a).val
  omega

theorem before_4 (c : Dev nD) (d) : (dats m ρ 0 c).before (4 : Fin 6) t0_0 d = (inp m c).sw := by
  unfold Dat.before; rw [if_pos (fetch0_4 t0_0)]
  funext i
  show m ((c : Thread nD τ).loc main_arg4) _ = m ((c : Thread nD τ).loc main_arg4) i
  refine congrArg (m ((c : Thread nD τ).loc main_arg4)) (funext fun a => Fin.ext ?_)
  show 0 * S512x1024.size a + 1 * (i a).val = (i a).val
  omega

theorem start_scr (c : Dev nD) : (Pipeline.scopedRest cfg0.spec c : sProp 𝕄) = scr (F := F) c := by
  have hp (Φ : Part → sProp 𝕄) : bigSep Finset.univ Φ = iprop(Φ .a ∗ Φ .b ∗ Φ .c ∗ Φ .d ∗ Φ .e ∗ Φ .f) :=
    bigSep_univ_eq_bigSepL [Part.a, .b, .c, .d, .e, .f] (by decide) (by decide) Φ
  have hr (b : Ref sig .tc) : (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) := by
    simp only [owns_whole]
  rw [scopedRest0_eq]
  unfold scr
  rw [hp, hp]
  refine Eq.trans ?_ (sep_six _ _ _ _ _ _ _).symm
  unfold raw red buf
  rw [hr, hr, hr, hr, hr, hr, hr, hr, hr, hr, hr, hr]
  rfl

theorem row_eq : defs₀ (F := F) .tc cfg0.body (cfg0.bodyArgs t0_0 (cfg0.slots t0_0)) = bodyAt0 t0_0 := rfl

/-- What the call starts from. -/
def callPre (c : Dev nD) : sProp 𝕄 :=
  iprop(Φ₀ m c ∗ (dats m ρ 0 c).owesAt () (t0_0 : Fin cfg0.N).castSucc
    ∗ (∃ d, owns (c : Thread nD τ) (st0_0 t0_0) fullShare ((dats m ρ 0 c).before (0 : Fin 6) t0_0 d))
    ∗ (∃ d, owns (c : Thread nD τ) (st0_1 t0_0) fullShare ((dats m ρ 0 c).before (1 : Fin 6) t0_0 d))
    ∗ (∃ d, owns (c : Thread nD τ) (st0_2 t0_0) fullShare ((dats m ρ 0 c).before (2 : Fin 6) t0_0 d))
    ∗ (∃ d, owns (c : Thread nD τ) (st0_3 t0_0) fullShare ((dats m ρ 0 c).before (3 : Fin 6) t0_0 d))
    ∗ (∃ d, owns (c : Thread nD τ) (st0_4 t0_0) fullShare ((dats m ρ 0 c).before (4 : Fin 6) t0_0 d))
    ∗ (∃ d, owns (c : Thread nD τ) (st0_5 t0_0) fullShare ((dats m ρ 0 c).before (5 : Fin 6) t0_0 d)))

/-- What the call leaves. -/
def callPost (c : Dev nD) : sProp 𝕄 :=
  iprop(Φ₁ (F := F) c ∗ (dats m ρ 0 c).owesAt () (t0_0 : Fin cfg0.N).succ
    ∗ owns (c : Thread nD τ) (st0_0 t0_0) fullShare (inp m c).x ∗ owns (c : Thread nD τ) (st0_1 t0_0) fullShare (inp m c).rw
    ∗ owns (c : Thread nD τ) (st0_2 t0_0) fullShare (inp m c).idx ∗ owns (c : Thread nD τ) (st0_3 t0_0) fullShare (inp m c).ew
    ∗ owns (c : Thread nD τ) (st0_4 t0_0) fullShare (inp m c).sw ∗ owns (c : Thread nD τ) (st0_5 t0_0) fullShare (outV (inp m) c))

set_option maxRecDepth 100000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  show callPre m ρ c ⊢ wp frame (wpE (defs₀ (F := F)) 𝒱₀ c none) Set.univ (defs₀ (F := F) .tc cfg0.body (cfg0.bodyArgs t0_0 (cfg0.slots t0_0))) (fun _ => callPost m ρ c)
  rw [row_eq, body_eq]
  generalize hb : body (F := F) (st0_0 t0_0) (st0_1 t0_0) (st0_2 t0_0) (st0_3 t0_0) (st0_4 t0_0) (st0_5 t0_0) = pr
  unfold callPre Φ₀ Dat.owesAt Pipeline.owesWithin
  rw [show (dats m ρ 0 c).owed (t0_0 : Fin cfg0.N).castSucc = O₀ c from rfl]
  simp only [before_0, before_1, before_2, before_3, before_4]
  iintro ⟨⟨⟨%κ, HC, Hl⟩, Hc, Hs⟩, ⟨%W, %hW, HO⟩, ⟨%d0, H0⟩, ⟨%d1, H1⟩, ⟨%d2, H2⟩, ⟨%d3, H3⟩, ⟨%d4, H4⟩, ⟨%d5, H5⟩⟩
  rw [← hb]
  iapply (show _ ⊢ iprop(_ -∗ wp frame (wpE (defs₀ (F := F)) 𝒱₀ c none) Set.univ _ (fun _ => callPost m ρ c)) from
    body_rule (inp m) κ c (st0_0 t0_0) (st0_1 t0_0) (st0_2 t0_0) (st0_3 t0_0) (st0_4 t0_0) (st0_5 t0_0) fullShare fullShare (fun _ => callPost m ρ c) fullShare fullShare fullShare W) $$ [HC Hl Hc Hs HO H0 H1 H2 H3 H4 H5]
  · isplitl [HC]; · iexact HC
    isplitl [Hl]; · iexact Hl
    isplitl [Hc]; · iexact Hc
    isplitl [Hs]; · iexact Hs
    isplitl [H0]; · iexact H0
    isplitl [H1]; · iexact H1
    isplitl [H2]; · iexact H2
    isplitl [H3]; · iexact H3
    isplitl [H4]; · iexact H4
    isplitl [H5]
    · unfold raw; iexists _; iexact H5
    iexact HO
  iintro ⟨H0, H1, H2, H3, H4, H5, Hs, ⟨%W', HO⟩, Hv⟩
  unfold callPost Φ₁ Dat.owesAt Pipeline.owesWithin
  rw [show (dats m ρ 0 c).owed (t0_0 : Fin cfg0.N).succ = 0 from rfl]
  isplitl [Hs Hv]
  · isplitl [Hs] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem ownSemFacts : Pipeline.OwnSemFacts cfg0.spec osem := by decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ GG' (inp m) c)
      ⊢ |={Set.univ}=> iprop(((∃ κ, Ctx (inp m) κ ∗ linear (F := F) c) ∗ credits (F := F) c) ∗ emp) := by
  iintro ⟨-, Hlev, Hcr, -, HG⟩
  ihave Hc := (creds (F := F) c) $$ Hcr
  imodintro
  unfold GG' records Ctx
  icases HG with ⟨%κ, ⟨H1, H2⟩, H3⟩
  isplitl
  · isplitl [Hlev H1 H2 H3]
    · iexists κ
      isplitl [Hlev H1 H2]
      · isplitl [H1]; · iexact H1
        isplitl [H2]; · iexact H2
        iexact Hlev
      iexact H3
    iexact Hc
  · iempintro

theorem phi0_intro (c : Dev nD) :
    iprop(((∃ κ, Ctx (inp m) κ ∗ linear (F := F) c) ∗ credits (F := F) c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, start_scr]
  unfold Φ₀
  iintro ⟨⟨Hs, Hc⟩, -, Hr⟩
  isplitl [Hs]; · iexact Hs
  isplitl [Hc]; · iexact Hc
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, start_scr]
  unfold Φ₁
  rw [← sems0_eq]
  iintro ⟨Hr, Ho, Hu⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in a window's array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every run terminates, each window's array left at its final contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := GG (inp m)) (G' := GG' (inp m)) (u₀ := u₀)
    (hu₀ := by
      unfold u₀
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := fun c => iprop((∃ κ, Ctx (inp m) κ ∗ linear (F := F) c) ∗ credits (F := F) c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Final contents -/

theorem finalA_in (c : Dev nD) (w : Fin cfg0.W) (h : (cfg0.win w).isOut = false) : finalA m ρ c w = m ((cfg0.win w).arr.view.loc (c : Thread nD τ)) :=
  (dats (F := F) m ρ 0 c).arrAt_in w h _

theorem mem_out (i : S2048x1024.Idx) : i ∈ ((cfg0.win (5 : Fin 6)).blk t0_0).view.set := by
  show i ∈ ((View.whole main_v1).slice (win0_5.rect t0_0)).set
  rw [View.set_slice_whole, Rect.mem_set_unit]
  intro a
  show 0 * S2048x1024.size a ≤ (i a).val ∧ (i a).val < 0 * S2048x1024.size a + S2048x1024.size a
  have := (i a).isLt
  omega

theorem finalA_out (c : Dev nD) : finalA m ρ c (5 : Fin 6) = outV (inp m) c :=
  (dats (F := F) m ρ 0 c).arrAt_eq_of_cover (5 : Fin 6) (outV (inp m) c)
    (fun t _ => by
      obtain rfl := fin_N0 t
      unfold Pipeline.Dat.flushed
      have ha : (dats m ρ 0 c).after (5 : Fin 6) t0_0 = outV (inp m) c := by dsimp only [dats]
      rw [ha]
      funext i
      show outV (inp m) c _ = outV (inp m) c _
      refine congrArg (outV (inp m) c) (funext fun a => Fin.ext ?_)
      show (i a).val = 0 * S2048x1024.size a + 1 * (i a).val
      omega)
    fun i => ⟨t0_0, flush0_5 _, mem_out i⟩

end Moe
-- ==== Proof.Moe.Frames.lean ====
/- The frames of the kernel: every run terminates, changes no argument and leaves every counter at zero. -/
module

public import proofs.«01_k».proof.Proof.Moe.Launch
public import proofs.«01_k».proof.Proof.Gen.Kernel
public import proofs.«01_k».proof.Defs
public import Idealize.ShloMosaic.Lib.Pipeline.Regions

@[expose] public section

set_option maxRecDepth 100000

noncomputable section

namespace Moe

open Idealize.ShloMosaic
open Idealize.ShloMosaic.TcCoe
open Idealize.SL.Sem
open Cert.KernelIdeal Cert.KernelIdeal.Gen

variable {F : FTy → Type} [FloatOps F]

/-- Every argument is left as it was. -/
def Kept (m : (l : Loc nD τ sig) → Buf (Elt F) l) (r : PUnit × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

theorem kept {m : (l : Loc nD τ sig) → Buf (Elt F) l} {ρ : Dev nD → PrngReg} {r : PUnit × MemSt nD τ sig (Elt F)} (h : QC m ρ r) (c : Dev nD) : Kept m r c :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

/-- The run: the result is `outV`, the arguments are kept, every counter is zero. -/
theorem run_out (m : (l : Loc nD τ sig) → Buf (Elt F) l) (ρ : Dev nD → PrngReg) :
    θ_run defs (onTc (τ := τ) (main (F := F))) (s₀ m ρ)
      (fun r => (∀ c : Dev nD, r.2.mem ((c : Thread nD τ).loc main_v1) = outV (inp m) c ∧ Kept m r c) ∧ r.2.sem = fun _ => 0) :=
  (θ_run defs _ _).mono (fun _ h => ⟨fun c => ⟨(h.1 c (5 : Fin 6)).trans (finalA_out m ρ c), kept h.1 c⟩, h.2⟩) (run_main m ρ)

/-- The frame of the kernel's text over any float values. -/
def FrameOf (F : FTy → Type) [FloatOps F] (P : ((l : Loc nD τ sig) → Buf (Elt F) l) → Prop) : Prop :=
  ∀ (m : (l : Loc nD τ sig) → Buf (Elt F) l) (ρ : Dev nD → PrngReg), P m →
    θ_run defs (onTc (τ := τ) (main (F := F))) ⟨m, fun _ => 0, ρ⟩ (fun r => (∀ c : Dev nD, Kept m r c) ∧ r.2.sem = fun _ => 0)

theorem frame_of (P : ((l : Loc nD τ sig) → Buf (Elt F) l) → Prop) : FrameOf F P := fun m ρ _ =>
  (θ_run defs _ _).mono (fun _ h => ⟨fun c => (h.1 c).2, h.2⟩) (run_out (F := F) m ρ)

/-- The kernel as compiled and the kernel read over the reals are one text. -/
theorem same_text : Cert.quiescent_Kernel = FrameOf Bits (fun m => Cert.Pre_Kernel m) := by chain_rfl

theorem frame_kernel : Cert.quiescent_Kernel := same_text.mpr (frame_of _)

theorem frame_kernel_ideal : Cert.quiescent_KernelIdeal := frame_of (F := Ideal) _

end Moe
-- ==== Proof.Moe.Ref.lean ====
/- The frame of the reference: it terminates, changes no argument and has no counter. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Moe

open Idealize.ShloMosaic
open Idealize.SL.Sem

theorem frame_reference_ideal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Moe
-- ==== Proof.Moe.Value.lean ====
/- The kernel's values over the reals, element by element. -/
module

public import proofs.«01_k».proof.Proof.Moe.Contents
public import Idealize.ShloMosaic.Lib.Pointwise

@[expose] public section

noncomputable section

namespace Moe

open Idealize.ShloMosaic Idealize.SL.Sem
open Cert.KernelIdeal Cert.KernelIdeal.Gen

/-- A choice by equality of words. -/
theorem select_eq (a b : BitVec 32) (u v : EReal) : Scalar.select (IntOp.cmpi CmpIPredicate.eq a b) u v = if a = b then u else v := by
  show Scalar.select (BitVec.ofBool (decide (a = b))) u v = _
  exact Scalar.select_decide _ _ _

/-- The coefficient of expert `e` for token `r`: the chosen probability where the token chose `e`, else zero. -/
theorem coef_apply (v j : BitVec 32) (idx : IVec S2048x1 32) (ps : FVec Ideal S2048x1 .f32) (r : Fin 2048) :
    coef v j idx ps (ix2 r 0) = if idx (ix2 r 0) = v * 4#32 + j then ps (ix2 r 0) else (0 : EReal) := by
  pointwise [coef]
  exact select_eq _ _ _ _

theorem pSel_apply (x : Vec Ideal S2048x512 .bf16) (rw : Vec Ideal S512x32 .bf16) (idx : Vec Ideal S2048x1 .i32) (r : Fin 2048) :
    pSel x rw idx (ix2 r 0) = ∑ e : Fin 32, if idx (ix2 r 0) = BitVec.ofNat 32 e.val then probs x rw (ix2 r e) else (0 : EReal) := by
  pointwise [pSel, route]
  refine Finset.sum_congr rfl fun e _ => (select_eq _ _ _ _).trans ?_
  simp only [eq_comm]

theorem term_apply (p : Part) (x : FVec Ideal S2048x512 .bf16) (co : FVec Ideal S2048x1 .f32) (w : Vec Ideal (SW p) .bf16)
    (r : Fin 2048) (h : Fin p.W) :
    term p x co w (ix2 r h) = co (ix2 r 0) * ∑ k : Fin 512, x (ix2 r k) * w (ix3 0 k h) := by
  cases p <;> pointwise [term, dotW]

theorem sharedAt_apply (J : Inputs Ideal) (r : Fin 2048) (h : Fin 1024) :
    sharedAt J (ix2 r h) = ∑ k : Fin 512, J.x (ix2 r k) * J.sw (ix2 k h) := by
  pointwise [sharedAt, sharedProd, tokens]

end Moe
-- ==== Proof.Moe.RefValue.lean ====
/- The reference's values over the reals, element by element. -/
module

public import proofs.«01_k».proof.Proof.Moe.Ref
public import proofs.«01_k».proof.Proof.Moe.Value

@[expose] public section

noncomputable section

namespace Moe.Reference

open Idealize.ShloMosaic Idealize.SL.Sem
open Cert.ReferenceIdeal Cert.ReferenceIdeal.Facts₀
open Cert.ReferenceIdeal.Facts

variable (x : FVec Ideal S2048x512 .bf16) (rw : FVec Ideal S512x32 .bf16) (idx : IVec S2048x1 32)
  (W : FVec Ideal S32x512x1024 .bf16) (sw : FVec Ideal S512x1024 .bf16)

/-- The router's scores. -/
def scores : FVec Ideal S2048x32 .f32 :=
  Host.dotGeneral dot_S2048x512_S512x32_S2048x32_1_0_0_1_n_n none (extf .f32 x bitsLt_bf16_f32) (extf .f32 rw bitsLt_bf16_f32)

/-- The exponentials of the scores less their row maximum. -/
def expScores : FVec Ideal S2048x32 .f32 :=
  Host.exp (subf (scores x rw) (broadcastInDim S2048x32 ![0, 1] bcast_S2048x1_S2048x32_0_1 (broadcastInDim S2048x1 ![0] bcast_S2048_S2048x1_0
    (maximumf (broadcastInDim S2048 ![] bcast_S_S2048 (constant S_ .f32 0xFF800000#32))
      (Host.reduce FloatOps.maximumf (scores x rw) (constant S_ .f32 0xFF800000#32) reducesTo_S2048x32_S2048_d1 h_S_)))))

/-- The routing probabilities. -/
def probs : FVec Ideal S2048x32 .f32 :=
  Host.divf (expScores x rw) (broadcastInDim S2048x32 ![0, 1] bcast_S2048x1_S2048x32_0_1 (broadcastInDim S2048x1 ![0] bcast_S2048_S2048x1_0
    (Host.reduceAdd (expScores x rw) (constant S_ .f32 0x00000000#32) reducesTo_S2048x32_S2048_d1 h_S_)))

/-- The one-hot rows. -/
def chosen : FVec Ideal S2048x32 .f32 :=
  uitofp .f32 (cmpi .eq (broadcastInDim S2048x32 ![0, 1] bcast_S2048x1_S2048x32_0_1 (broadcastInDim S2048x1 ![0] bcast_S2048_S2048x1_0
    (shapeCast _ idx shapeCasts_S2048x1_S2048))) (broadcastInDim S2048x32 ![0, 1] bcast_S1x32_S2048x32_0_1 (iotaInDim S1x32 32 1)))

/-- Every expert's product, at its one-hot weight. -/
def routed : FVec Ideal S32x2048x1024 .f32 :=
  mulf (broadcastInDim S32x2048x1024 ![0, 1, 2] bcast_S32x2048x1_S32x2048x1024_0_1_2 (broadcastInDim S32x2048x1 ![0, 1] bcast_S32x2048_S32x2048x1_0_1
      (transpose S32x2048 [1, 0] (chosen idx) transposes_S2048x32_S32x2048_1_0)))
    (transpose S32x2048x1024 [0, 2, 1] (Host.dotGeneral dot_S32x512x1024_S2048x512_S32x1024x2048_1_1_02_0_n_n none (extf .f32 W bitsLt_bf16_f32) (extf .f32 x bitsLt_bf16_f32))
      transposes_S32x1024x2048_S32x2048x1024_0_2_1)

/-- The result. -/
def out : FVec Ideal S2048x1024 .f32 :=
  addf (Host.dotGeneral dot_S2048x512_S512x1024_S2048x1024_1_0_0_1_n_n none (extf .f32 x bitsLt_bf16_f32) (extf .f32 sw bitsLt_bf16_f32))
    (mulf (broadcastInDim S2048x1024 ![0, 1] bcast_S2048x1_S2048x1024_0_1 (broadcastInDim S2048x1 ![0] bcast_S2048_S2048x1_0
        (Host.reduceAdd (mulf (probs x rw) (chosen idx)) (constant S_ .f32 0x00000000#32) reducesTo_S2048x32_S2048_d1 h_S_)))
      (Host.reduceAdd (routed x idx W) (constant S_ .f32 0x00000000#32) reducesTo_S32x2048x1024_S2048x1024_d0 h_S_))

/-- A maximum over a row from a start is at least the start. -/
theorem max_fold {n : Nat} (b : EReal) (f : Fin n → EReal) : max b (Finset.fold max b f Finset.univ) = Finset.fold max b f Finset.univ :=
  max_eq_right (Finset.le_fold_max (c := b) |>.mpr (Or.inl le_rfl))

theorem chosen_apply (r : Fin 2048) (e : Fin 32) :
    chosen idx (ix2 r e) = if idx (ix2 r 0) = BitVec.ofNat 32 e.val then (1 : EReal) else 0 := by
  pointwise [chosen]
  show (((BitVec.ofBool (decide (idx (ix2 r 0) = BitVec.ofNat 32 e.val))).toNat : ℝ) : EReal) = _
  by_cases h : idx (ix2 r 0) = BitVec.ofNat 32 e.val <;> simp [h]

theorem routed_apply (e : Fin 32) (r : Fin 2048) (h : Fin 1024) :
    routed x idx W (ix3 e r h) = chosen idx (ix2 r e) * ∑ k : Fin 512, W (ix3 e k h) * x (ix2 r k) := by
  pointwise [routed]

theorem probs_eq (r : Fin 2048) (e : Fin 32) : probs x rw (ix2 r e) = Moe.probs (F := Ideal) x rw (ix2 r e) := by
  pointwise [probs, Moe.probs, expScores, Moe.expScores, scores, Moe.scores, tokens, max_fold]

theorem out_apply (r : Fin 2048) (h : Fin 1024) :
    out x rw idx W sw (ix2 r h) = (∑ k : Fin 512, x (ix2 r k) * sw (ix2 k h))
      + (∑ e : Fin 32, probs x rw (ix2 r e) * chosen idx (ix2 r e)) * ∑ e : Fin 32, routed x idx W (ix3 e r h) := by
  pointwise [out]

end Moe.Reference
-- ==== Proof.Moe.Sums.lean ====
/- The sum that the exchange leaves in every chunk: over all eight devices, and so over all thirty-two experts. -/
module

public import proofs.«01_k».proof.Proof.Moe.Value

@[expose] public section

noncomputable section

namespace Moe

open Idealize.ShloMosaic Idealize.SL.Sem
open Cert.KernelIdeal Cert.KernelIdeal.Gen

/-- The running sum of one element, on numbers. -/
def acc {M : Type} [Add M] (L : Fin 8 → M) (p : Part) : Nat → Fin 8 → M
  | 0, d => L d
  | n + 1, d => acc L p n d + acc L p n (nb d (p.dim (rix n)))

/-- After three rounds every device has the sum over all. -/
theorem acc_three {M : Type} [AddCommMonoid M] (L : Fin 8 → M) (p : Part) (d : Fin 8) : acc L p 3 d = ∑ c : Fin 8, L c := by
  have hd : d = 0 ∨ d = 1 ∨ d = 2 ∨ d = 3 ∨ d = 4 ∨ d = 5 ∨ d = 6 ∨ d = 7 := by revert d; decide
  cases p <;> rcases hd with rfl | rfl | rfl | rfl | rfl | rfl | rfl | rfl <;> simp [acc, nb, rix, Part.dim, Fin.sum_univ_eight] <;> ac_rfl

theorem run_acc (I : Dev nD → Inputs Ideal) (p : Part) (q : Fin 8) (i : (SC p).Idx) (n : Nat) (d : Dev nD) :
    run I p n d q i = acc (M := EReal) (fun c => locS I p c ((cR p q).emb i)) p n d := by
  induction n generalizing d with
  | zero => rfl
  | succ n ih =>
    show (run I p n d q i : EReal) + run I p n (nb d (p.dim (rix n))) q i = _
    rw [ih, ih]; rfl

theorem ew_at (p : Part) (j : Fin 4) (w : Vec Ideal S4x512x1024 .bf16) (k : Fin 512) (h : Fin p.W) (h' : Fin 1024) (e : h'.val = p.col + h.val) :
    w ((expertR p j).emb (ix3 0 k h)) = w (ix3 j k h') := by
  congr 1
  funext a
  refine Fin.ext ?_
  match a with
  | ⟨0, _⟩ => show j.val + 1 * 0 = j.val; omega
  | ⟨1, _⟩ => show 0 + 1 * k.val = k.val; omega
  | ⟨2, _⟩ => show p.col + 1 * h.val = h'.val; omega

/-- One device's local sum at an element. -/
theorem locS_apply (I : Dev nD → Inputs Ideal) (p : Part) (d : Dev nD) (r : Fin 2048) (h : Fin p.W) (h' : Fin 1024) (e : h'.val = p.col + h.val) :
    locS I p d (ix2 r h) = ∑ j : Fin 4, (coefAt d (I d) (BitVec.ofNat 32 j.val) (ix2 r 0) : EReal)
      * ∑ k : Fin 512, (I d).x (ix2 r k) * (I d).ew (ix3 j k h') := by
  have t (j : Fin 4) (b : BitVec 32) : term p (tokens (I d).x) (coefAt d (I d) b) (fun i => (I d).ew ((expertR p j).emb i)) (ix2 r h)
      = (coefAt d (I d) b (ix2 r 0) : EReal) * ∑ k : Fin 512, (I d).x (ix2 r k) * (I d).ew (ix3 j k h') := by
    rw [term_apply]
    refine congrArg _ (Finset.sum_congr rfl fun k _ => ?_)
    rw [ew_at p j (I d).ew k h h' e]
    unfold tokens
    rw [shapeCast_self]
  unfold locS localSum
  rw [shapeCast_self, Fin.sum_univ_four]
  show ((((Ideal.ofBits .f32 0#32 : EReal) + term p _ _ _ (ix2 r h)) + term p _ _ _ (ix2 r h)) + term p _ _ _ (ix2 r h)) + term p _ _ _ (ix2 r h) = _
  rw [t, t, t, t, Ideal.ofBits_zero_f32, zero_add]
  rfl

/-- The gathered sum at an element. -/
theorem gath_apply (I : Dev nD → Inputs Ideal) (r : Fin 2048) (h : Fin 1024) :
    gath I (ix2 r h) = ∑ d : Fin 8, ∑ j : Fin 4, (coefAt d (I d) (BitVec.ofNat 32 j.val) (ix2 r 0) : EReal)
      * ∑ k : Fin 512, (I d).x (ix2 r k) * (I d).ew (ix3 j k h) := by
  have hp := partOf_lt h.val h.isLt
  have key (p : Part) (hc : p.col ≤ h.val) (hw : h.val - p.col < p.W) (q : Fin 8) (hq : q.val = r.val / 256) :
      fin I p q (cIx p (r.val % 256) (h.val - p.col) (Nat.mod_lt _ (by decide)) hw)
        = ∑ d : Fin 8, ∑ j : Fin 4, (coefAt d (I d) (BitVec.ofNat 32 j.val) (ix2 r 0) : EReal)
          * ∑ k : Fin 512, (I d).x (ix2 r k) * (I d).ew (ix3 j k h) := by
    unfold fin
    rw [run_acc, acc_three]
    refine Finset.sum_congr rfl fun d _ => ?_
    have hi : (cR p q).emb (cIx p (r.val % 256) (h.val - p.col) (Nat.mod_lt _ (by decide)) hw) = ix2 (n0 := 2048) (n1 := p.W) r ⟨h.val - p.col, hw⟩ := by
      funext a
      refine Fin.ext ?_
      match a with
      | ⟨0, _⟩ => show 256 * q.val + 1 * (r.val % 256) = r.val; omega
      | ⟨1, _⟩ => show 0 + 1 * (h.val - p.col) = h.val - p.col; omega
    rw [hi]
    exact locS_apply I p d r _ h (by show h.val = p.col + (h.val - p.col); omega)
  exact key (partOf h.val) hp.1 (by omega) _ rfl

/-- The word of device `d`'s expert `j`. -/
theorem expert_word (d : Fin 8) (j : Fin 4) : pos d * 4#32 + BitVec.ofNat 32 j.val = BitVec.ofNat 32 (4 * d.val + j.val) := by
  revert d j; decide +kernel

/-- A sum over devices and their four experts is a sum over all experts. -/
theorem sum_experts (f : Nat → EReal) : ∑ d : Fin 8, ∑ j : Fin 4, f (4 * d.val + j.val) = ∑ e : Fin 32, f e.val := by
  rw [← Fintype.sum_prod_type' (f := fun (d : Fin 8) (j : Fin 4) => f (4 * d.val + j.val))]
  refine Fintype.sum_equiv (finProdFinEquiv (m := 8) (n := 4)) _ _ fun x => ?_
  show _ = f (x.2.val + 4 * x.1.val)
  rw [Nat.add_comm]

/-- At most one expert is chosen: the sum of the chosen coefficients times the products is the coefficient times the
    one-hot sum of the products. -/
theorem one_chosen {n : Nat} (c : Fin n → Prop) [DecidablePred c] (hc : ∀ a b, c a → c b → a = b) (u : EReal) (T : Fin n → EReal) :
    ∑ e, (if c e then u else 0) * T e = u * ∑ e, (if c e then 1 else 0) * T e := by
  by_cases h : ∃ a, c a
  · obtain ⟨a, ha⟩ := h
    rw [Finset.sum_eq_single a, Finset.sum_eq_single a]
    · rw [if_pos ha, if_pos ha, one_mul]
    · intro b _ hb; rw [if_neg fun h => hb (hc _ _ h ha), zero_mul]
    · intro h; exact absurd (Finset.mem_univ a) h
    · intro b _ hb; rw [if_neg fun h => hb (hc _ _ h ha), zero_mul]
    · intro h; exact absurd (Finset.mem_univ a) h
  · have h' : ∀ e, ¬ c e := fun e he => h ⟨e, he⟩
    simp [h']

end Moe
-- ==== Proof.Moe.Algebra.lean ====
/- Over the reals, every device's result is the reference's. -/
module

public import proofs.«01_k».proof.Proof.Moe.Frames
public import proofs.«01_k».proof.Proof.Moe.RefValue
public import proofs.«01_k».proof.Proof.Moe.Sums

@[expose] public section

noncomputable section

namespace Moe

open Idealize.ShloMosaic
open Idealize.ShloMosaic.TcCoe
open Idealize.SL.Sem
open Cert.KernelIdeal Cert.KernelIdeal.Gen

/-- Device inputs that are the whole operands, the experts' weights cut into eight blocks of four. -/
structure Agree (I : Dev nD → Inputs Ideal) (x : FVec Ideal S2048x512 .bf16) (rw : FVec Ideal S512x32 .bf16) (idx : IVec S2048x1 32)
    (W : FVec Ideal Cert.ReferenceIdeal.S32x512x1024 .bf16) (sw : FVec Ideal S512x1024 .bf16) : Prop where
  x : ∀ c, (I c).x = x
  rw : ∀ c, (I c).rw = rw
  idx : ∀ c, (I c).idx = idx
  ew : ∀ c, (I c).ew = Layout.block S4x512x1024 Cert.ReferenceIdeal.S32x512x1024 0 8 c W
  sw : ∀ c, (I c).sw = sw

section
variable {I : Dev nD → Inputs Ideal} {x : FVec Ideal S2048x512 .bf16} {rw : FVec Ideal S512x32 .bf16} {idx : IVec S2048x1 32}
  {W : FVec Ideal Cert.ReferenceIdeal.S32x512x1024 .bf16} {sw : FVec Ideal S512x1024 .bf16} (A : Agree I x rw idx W sw)

/-- Expert `e`'s product at an element, the weights of an expert past the last read as zero. -/
def prodAt (x : FVec Ideal S2048x512 .bf16) (W : FVec Ideal Cert.ReferenceIdeal.S32x512x1024 .bf16) (r : Fin 2048) (h : Fin 1024) (e : Nat) : EReal :=
  if he : e < 32 then ∑ k : Fin 512, x (ix2 r k) * W (ix3 ⟨e, he⟩ k h) else 0

include A in
theorem gath_experts (r : Fin 2048) (h : Fin 1024) :
    gath I (ix2 r h) = ∑ e : Fin 32, (if idx (ix2 r 0) = BitVec.ofNat 32 e.val then (pSel (F := Ideal) x rw idx (ix2 r 0) : EReal) else 0)
      * ∑ k : Fin 512, x (ix2 r k) * W (ix3 e k h) := by
  have hs := sum_experts fun e => (if idx (ix2 r 0) = BitVec.ofNat 32 e then (pSel (F := Ideal) x rw idx (ix2 r 0) : EReal) else 0) * prodAt x W r h e
  have hr : ∀ e : Fin 32, prodAt x W r h e.val = ∑ k : Fin 512, x (ix2 r k) * W (ix3 e k h) := fun e => dif_pos e.isLt
  simp only [hr] at hs
  rw [← hs, gath_apply]
  refine Finset.sum_congr rfl fun d _ => Finset.sum_congr rfl fun j _ => ?_
  have hd : d.val < 8 := d.isLt
  have hj := j.isLt
  refine congr (congrArg _ ?_) ?_
  · unfold coefAt route
    rw [coef_apply, shapeCast_self, A.idx, A.x, A.rw, expert_word]
  · have he : 4 * d.val + j.val < 32 := by omega
    rw [show prodAt x W r h (4 * d.val + j.val) = _ from dif_pos he, A.x, A.ew]
    refine Finset.sum_congr rfl fun k _ => congrArg _ ?_
    show W _ = W _
    congr 1
    funext a
    refine Fin.ext ?_
    match a with
    | ⟨0, _⟩ => show d.val * 4 + j.val = 4 * d.val + j.val; omega
    | ⟨1, _⟩ => rfl
    | ⟨2, _⟩ => rfl

include A in
theorem out_at (c : Dev nD) (r : Fin 2048) (h : Fin 1024) : outV I c (ix2 r h) = Reference.out x rw idx W sw (ix2 r h) := by
  rw [Reference.out_apply]
  show (sharedAt (I c) (ix2 r h) : EReal) + gath I (ix2 r h) = _
  rw [sharedAt_apply, A.x, A.sw, gath_experts A, one_chosen _ (fun a b ha hb => ?_), pSel_apply]
  · refine congrArg _ (congr (congrArg _ (Finset.sum_congr rfl fun e _ => ?_)) (Finset.sum_congr rfl fun e _ => ?_))
    · rw [Reference.probs_eq, Reference.chosen_apply, mul_ite, mul_one, mul_zero]
    · rw [Reference.routed_apply, Reference.chosen_apply]
      exact congrArg _ (Finset.sum_congr rfl fun k _ => mul_comm _ _)
  · have hw := ha.symm.trans hb
    have hn := congrArg BitVec.toNat hw
    rw [BitVec.toNat_ofNat, BitVec.toNat_ofNat, Nat.mod_eq_of_lt (by omega), Nat.mod_eq_of_lt (by omega)] at hn
    exact Fin.ext hn

include A in
/-- Every device's result is the reference's. -/
theorem out_eq (c : Dev nD) : outV I c = Reference.out x rw idx W sw := by
  funext i
  have h := out_at A c (i 0) (i 1)
  rwa [← eq_ix2 i] at h

end

/-- The kernel and the reference compute the same over the reals. -/
theorem algebraic : Cert.algebraic_KernelIdeal_ReferenceIdeal := by
  intro m ρ m' ρ' _ hag
  refine ⟨Reference.out (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2))
    (m' ((0 : Dev Cert.ReferenceIdeal.nD).tc.loc Cert.ReferenceIdeal.main_arg3)) (m' ((0 : Dev Cert.ReferenceIdeal.nD).tc.loc Cert.ReferenceIdeal.main_arg4)), ?_, ?_⟩
  · refine (θ_run defs _ _).mono (fun r h c => ⟨(h.1 c).1.trans (out_eq ?_ c), (h.1 c).2⟩) (run_out (F := Ideal) m ρ)
    exact ⟨fun c => (hag c).1, fun c => (hag c).2.1, fun c => (hag c).2.2.1, fun c => (hag c).2.2.2.1, fun c => (hag c).2.2.2.2⟩
  · exact (θ_run Cert.ReferenceIdeal.defs _ _).mono (fun r h => h 0) (Cert.ReferenceIdeal.Value.run (F := Ideal) m' ρ')

end Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Moe.Frames
public import proofs.«01_k».proof.Proof.Moe.Ref
public import proofs.«01_k».proof.Proof.Moe.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Moe.frame_kernel, Moe.frame_kernel_ideal, Moe.frame_reference_ideal, trivial, Moe.algebraic⟩

end Cert.Proof

end
